-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 1024]⟩ ⟨3, ![2, 512, 1024]⟩ (Layout.meshBlock [2, 2] ![[0], [], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![512, 512]⟩ ⟨2, ![512, 1024]⟩ (Layout.meshBlock [2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x1024 : Shape := ⟨3, ![1, 512, 1024]⟩
abbrev S512x512 : Shape := ⟨2, ![512, 512]⟩
abbrev S256x512 : Shape := ⟨2, ![256, 512]⟩
abbrev S8 : Shape := ⟨1, ![8]⟩
abbrev S_ : Shape := ⟨0, ![]⟩
abbrev S1 : Shape := ⟨1, ![1]⟩
abbrev S32x512 : Shape := ⟨2, ![32, 512]⟩
abbrev S1x32x512 : Shape := ⟨3, ![1, 32, 512]⟩

abbrev nBuf : Space → Nat
  | .hbm => 2
  | .vmem => 3
  | .smem => 0
  | _ => 0

abbrev bufTy : (tb : Table) → Fin (tcTables nBuf tb) → BufTy
  | .hbm, ⟨0, _⟩ => ⟨S1x512x1024, .f32⟩
  | .hbm, ⟨1, _⟩ => ⟨S512x512, .f32⟩
  | .local _ .vmem, ⟨0, _⟩ => ⟨S1x512x1024, .f32⟩
  | .local _ .vmem, ⟨1, _⟩ => ⟨S512x512, .f32⟩
  | .local _ .vmem, ⟨2, _⟩ => ⟨S256x512, .f32⟩
  | _, _ => ⟨S1x512x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v7 : BitVec 32 := Scalar.subi c1_i32_2 v2
  let c2_i32_5 : BitVec 32 := 2#32
  let v9 : BitVec 32 := Scalar.muli v7 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v8 : BitVec 32 := Scalar.subi c1_i32_3 v5
  let c1_i32_10 : BitVec 32 := 1#32
  let v15 : BitVec 32 := Scalar.muli v8 c1_i32_10
  let v16 : BitVec 32 := Scalar.addi v14 v15
  v16.toNat
def k0_cond1 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_12 : BitVec 32 := 0#32
  let v17 : BitVec 1 := Scalar.cmpi .eq v2 c0_i32_12
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_13 : BitVec 32 := 0#32
  let v18 : BitVec 1 := Scalar.cmpi .eq v5 c0_i32_13
  let v19 : BitVec 1 := Scalar.andi v17 v18
  let v20 : BitVec 32 := Scalar.extui v19
  let c0_i32_14 : BitVec 32 := 0#32
  let v21 : BitVec 1 := Scalar.cmpi .ne v20 c0_i32_14
  v21

def k0_dev3 : Nat :=
  let c0_i32_30 : BitVec 32 := 0#32
  let c1_i32_27 : BitVec 32 := 1#32
  let c2_i32_29 : BitVec 32 := 2#32
  let v37 : BitVec 32 := Scalar.muli c1_i32_27 c2_i32_29
  let v38 : BitVec 32 := Scalar.addi c0_i32_30 v37
  let c0_i32_28 : BitVec 32 := 0#32
  let c1_i32_31 : BitVec 32 := 1#32
  let v39 : BitVec 32 := Scalar.muli c0_i32_28 c1_i32_31
  let v40 : BitVec 32 := Scalar.addi v38 v39
  v40.toNat
def k0_dev4 : Nat :=
  let c0_i32_41 : BitVec 32 := 0#32
  let c1_i32_38 : BitVec 32 := 1#32
  let c2_i32_40 : BitVec 32 := 2#32
  let v48 : BitVec 32 := Scalar.muli c1_i32_38 c2_i32_40
  let v49 : BitVec 32 := Scalar.addi c0_i32_41 v48
  let c0_i32_39 : BitVec 32 := 0#32
  let c1_i32_42 : BitVec 32 := 1#32
  let v50 : BitVec 32 := Scalar.muli c0_i32_39 c1_i32_42
  let v51 : BitVec 32 := Scalar.addi v49 v50
  v51.toNat
def k0_dev5 : Nat :=
  let c0_i32_52 : BitVec 32 := 0#32
  let c1_i32_49 : BitVec 32 := 1#32
  let c2_i32_51 : BitVec 32 := 2#32
  let v59 : BitVec 32 := Scalar.muli c1_i32_49 c2_i32_51
  let v60 : BitVec 32 := Scalar.addi c0_i32_52 v59
  let c0_i32_50 : BitVec 32 := 0#32
  let c1_i32_53 : BitVec 32 := 1#32
  let v61 : BitVec 32 := Scalar.muli c0_i32_50 c1_i32_53
  let v62 : BitVec 32 := Scalar.addi v60 v61
  v62.toNat
def k0_dev6 : Nat :=
  let c0_i32_62 : BitVec 32 := 0#32
  let c1_i32_59 : BitVec 32 := 1#32
  let c2_i32_61 : BitVec 32 := 2#32
  let v70 : BitVec 32 := Scalar.muli c1_i32_59 c2_i32_61
  let v71 : BitVec 32 := Scalar.addi c0_i32_62 v70
  let c0_i32_60 : BitVec 32 := 0#32
  let c1_i32_63 : BitVec 32 := 1#32
  let v72 : BitVec 32 := Scalar.muli c0_i32_60 c1_i32_63
  let v73 : BitVec 32 := Scalar.addi v71 v72
  v73.toNat
def k0_dev7 : Nat :=
  let c0_i32_72 : BitVec 32 := 0#32
  let c1_i32_69 : BitVec 32 := 1#32
  let c2_i32_71 : BitVec 32 := 2#32
  let v81 : BitVec 32 := Scalar.muli c1_i32_69 c2_i32_71
  let v82 : BitVec 32 := Scalar.addi c0_i32_72 v81
  let c0_i32_70 : BitVec 32 := 0#32
  let c1_i32_73 : BitVec 32 := 1#32
  let v83 : BitVec 32 := Scalar.muli c0_i32_70 c1_i32_73
  let v84 : BitVec 32 := Scalar.addi v82 v83
  v84.toNat
def k0_dev8 : Nat :=
  let c0_i32_82 : BitVec 32 := 0#32
  let c1_i32_79 : BitVec 32 := 1#32
  let c2_i32_81 : BitVec 32 := 2#32
  let v92 : BitVec 32 := Scalar.muli c1_i32_79 c2_i32_81
  let v93 : BitVec 32 := Scalar.addi c0_i32_82 v92
  let c0_i32_80 : BitVec 32 := 0#32
  let c1_i32_83 : BitVec 32 := 1#32
  let v94 : BitVec 32 := Scalar.muli c0_i32_80 c1_i32_83
  let v95 : BitVec 32 := Scalar.addi v93 v94
  v95.toNat
def k0_dev9 : Nat :=
  let c0_i32_92 : BitVec 32 := 0#32
  let c1_i32_89 : BitVec 32 := 1#32
  let c2_i32_91 : BitVec 32 := 2#32
  let v103 : BitVec 32 := Scalar.muli c1_i32_89 c2_i32_91
  let v104 : BitVec 32 := Scalar.addi c0_i32_92 v103
  let c0_i32_90 : BitVec 32 := 0#32
  let c1_i32_93 : BitVec 32 := 1#32
  let v105 : BitVec 32 := Scalar.muli c0_i32_90 c1_i32_93
  let v106 : BitVec 32 := Scalar.addi v104 v105
  v106.toNat
def k0_dev10 : Nat :=
  let c0_i32_102 : BitVec 32 := 0#32
  let c1_i32_99 : BitVec 32 := 1#32
  let c2_i32_101 : BitVec 32 := 2#32
  let v114 : BitVec 32 := Scalar.muli c1_i32_99 c2_i32_101
  let v115 : BitVec 32 := Scalar.addi c0_i32_102 v114
  let c0_i32_100 : BitVec 32 := 0#32
  let c1_i32_103 : BitVec 32 := 1#32
  let v116 : BitVec 32 := Scalar.muli c0_i32_100 c1_i32_103
  let v117 : BitVec 32 := Scalar.addi v115 v116
  v117.toNat
def k0_dev11 : Nat :=
  let c0_i32_130 : BitVec 32 := 0#32
  let c0_i32_127 : BitVec 32 := 0#32
  let c2_i32_129 : BitVec 32 := 2#32
  let v139 : BitVec 32 := Scalar.muli c0_i32_127 c2_i32_129
  let v140 : BitVec 32 := Scalar.addi c0_i32_130 v139
  let c1_i32_128 : BitVec 32 := 1#32
  let c1_i32_131 : BitVec 32 := 1#32
  let v141 : BitVec 32 := Scalar.muli c1_i32_128 c1_i32_131
  let v142 : BitVec 32 := Scalar.addi v140 v141
  v142.toNat
def k0_dev12 : Nat :=
  let c0_i32_159 : BitVec 32 := 0#32
  let c0_i32_156 : BitVec 32 := 0#32
  let c2_i32_158 : BitVec 32 := 2#32
  let v163 : BitVec 32 := Scalar.muli c0_i32_156 c2_i32_158
  let v164 : BitVec 32 := Scalar.addi c0_i32_159 v163
  let c1_i32_157 : BitVec 32 := 1#32
  let c1_i32_160 : BitVec 32 := 1#32
  let v165 : BitVec 32 := Scalar.muli c1_i32_157 c1_i32_160
  let v166 : BitVec 32 := Scalar.addi v164 v165
  v166.toNat
def k0_dev13 : Nat :=
  let c0_i32_188 : BitVec 32 := 0#32
  let c0_i32_185 : BitVec 32 := 0#32
  let c2_i32_187 : BitVec 32 := 2#32
  let v187 : BitVec 32 := Scalar.muli c0_i32_185 c2_i32_187
  let v188 : BitVec 32 := Scalar.addi c0_i32_188 v187
  let c1_i32_186 : BitVec 32 := 1#32
  let c1_i32_189 : BitVec 32 := 1#32
  let v189 : BitVec 32 := Scalar.muli c1_i32_186 c1_i32_189
  let v190 : BitVec 32 := Scalar.addi v188 v189
  v190.toNat
def k0_dev14 : Nat :=
  let c0_i32_217 : BitVec 32 := 0#32
  let c0_i32_214 : BitVec 32 := 0#32
  let c2_i32_216 : BitVec 32 := 2#32
  let v211 : BitVec 32 := Scalar.muli c0_i32_214 c2_i32_216
  let v212 : BitVec 32 := Scalar.addi c0_i32_217 v211
  let c1_i32_215 : BitVec 32 := 1#32
  let c1_i32_218 : BitVec 32 := 1#32
  let v213 : BitVec 32 := Scalar.muli c1_i32_215 c1_i32_218
  let v214 : BitVec 32 := Scalar.addi v212 v213
  v214.toNat
def k0_dev15 : Nat :=
  let c0_i32_246 : BitVec 32 := 0#32
  let c0_i32_243 : BitVec 32 := 0#32
  let c2_i32_245 : BitVec 32 := 2#32
  let v235 : BitVec 32 := Scalar.muli c0_i32_243 c2_i32_245
  let v236 : BitVec 32 := Scalar.addi c0_i32_246 v235
  let c1_i32_244 : BitVec 32 := 1#32
  let c1_i32_247 : BitVec 32 := 1#32
  let v237 : BitVec 32 := Scalar.muli c1_i32_244 c1_i32_247
  let v238 : BitVec 32 := Scalar.addi v236 v237
  v238.toNat
def k0_dev16 : Nat :=
  let c0_i32_275 : BitVec 32 := 0#32
  let c0_i32_272 : BitVec 32 := 0#32
  let c2_i32_274 : BitVec 32 := 2#32
  let v259 : BitVec 32 := Scalar.muli c0_i32_272 c2_i32_274
  let v260 : BitVec 32 := Scalar.addi c0_i32_275 v259
  let c1_i32_273 : BitVec 32 := 1#32
  let c1_i32_276 : BitVec 32 := 1#32
  let v261 : BitVec 32 := Scalar.muli c1_i32_273 c1_i32_276
  let v262 : BitVec 32 := Scalar.addi v260 v261
  v262.toNat
def k0_dev17 : Nat :=
  let c0_i32_304 : BitVec 32 := 0#32
  let c0_i32_301 : BitVec 32 := 0#32
  let c2_i32_303 : BitVec 32 := 2#32
  let v283 : BitVec 32 := Scalar.muli c0_i32_301 c2_i32_303
  let v284 : BitVec 32 := Scalar.addi c0_i32_304 v283
  let c1_i32_302 : BitVec 32 := 1#32
  let c1_i32_305 : BitVec 32 := 1#32
  let v285 : BitVec 32 := Scalar.muli c1_i32_302 c1_i32_305
  let v286 : BitVec 32 := Scalar.addi v284 v285
  v286.toNat
def k0_dev18 : Nat :=
  let c0_i32_333 : BitVec 32 := 0#32
  let c0_i32_330 : BitVec 32 := 0#32
  let c2_i32_332 : BitVec 32 := 2#32
  let v307 : BitVec 32 := Scalar.muli c0_i32_330 c2_i32_332
  let v308 : BitVec 32 := Scalar.addi c0_i32_333 v307
  let c1_i32_331 : BitVec 32 := 1#32
  let c1_i32_334 : BitVec 32 := 1#32
  let v309 : BitVec 32 := Scalar.muli c1_i32_331 c1_i32_334
  let v310 : BitVec 32 := Scalar.addi v308 v309
  v310.toNat
def k0_cond2 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c0_i32_15 : BitVec 32 := 0#32
  let v22 : BitVec 1 := Scalar.cmpi .eq v2 c0_i32_15
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_16 : BitVec 32 := 1#32
  let v23 : BitVec 1 := Scalar.cmpi .eq v5 c1_i32_16
  let v24 : BitVec 1 := Scalar.andi v22 v23
  let v25 : BitVec 32 := Scalar.extui v24
  let c0_i32_17 : BitVec 32 := 0#32
  let v26 : BitVec 1 := Scalar.cmpi .ne v25 c0_i32_17
  v26

def k0_dev19 : Nat :=
  let c0_i32_30 : BitVec 32 := 0#32
  let c1_i32_27 : BitVec 32 := 1#32
  let c2_i32_29 : BitVec 32 := 2#32
  let v37 : BitVec 32 := Scalar.muli c1_i32_27 c2_i32_29
  let v38 : BitVec 32 := Scalar.addi c0_i32_30 v37
  let c1_i32_28 : BitVec 32 := 1#32
  let c1_i32_31 : BitVec 32 := 1#32
  let v39 : BitVec 32 := Scalar.muli c1_i32_28 c1_i32_31
  let v40 : BitVec 32 := Scalar.addi v38 v39
  v40.toNat
def k0_dev20 : Nat :=
  let c0_i32_40 : BitVec 32 := 0#32
  let c1_i32_37 : BitVec 32 := 1#32
  let c2_i32_39 : BitVec 32 := 2#32
  let v48 : BitVec 32 := Scalar.muli c1_i32_37 c2_i32_39
  let v49 : BitVec 32 := Scalar.addi c0_i32_40 v48
  let c1_i32_38 : BitVec 32 := 1#32
  let c1_i32_41 : BitVec 32 := 1#32
  let v50 : BitVec 32 := Scalar.muli c1_i32_38 c1_i32_41
  let v51 : BitVec 32 := Scalar.addi v49 v50
  v51.toNat
def k0_dev21 : Nat :=
  let c0_i32_50 : BitVec 32 := 0#32
  let c1_i32_47 : BitVec 32 := 1#32
  let c2_i32_49 : BitVec 32 := 2#32
  let v59 : BitVec 32 := Scalar.muli c1_i32_47 c2_i32_49
  let v60 : BitVec 32 := Scalar.addi c0_i32_50 v59
  let c1_i32_48 : BitVec 32 := 1#32
  let c1_i32_51 : BitVec 32 := 1#32
  let v61 : BitVec 32 := Scalar.muli c1_i32_48 c1_i32_51
  let v62 : BitVec 32 := Scalar.addi v60 v61
  v62.toNat
def k0_dev22 : Nat :=
  let c0_i32_59 : BitVec 32 := 0#32
  let c1_i32_56 : BitVec 32 := 1#32
  let c2_i32_58 : BitVec 32 := 2#32
  let v70 : BitVec 32 := Scalar.muli c1_i32_56 c2_i32_58
  let v71 : BitVec 32 := Scalar.addi c0_i32_59 v70
  let c1_i32_57 : BitVec 32 := 1#32
  let c1_i32_60 : BitVec 32 := 1#32
  let v72 : BitVec 32 := Scalar.muli c1_i32_57 c1_i32_60
  let v73 : BitVec 32 := Scalar.addi v71 v72
  v73.toNat
def k0_dev23 : Nat :=
  let c0_i32_68 : BitVec 32 := 0#32
  let c1_i32_65 : BitVec 32 := 1#32
  let c2_i32_67 : BitVec 32 := 2#32
  let v81 : BitVec 32 := Scalar.muli c1_i32_65 c2_i32_67
  let v82 : BitVec 32 := Scalar.addi c0_i32_68 v81
  let c1_i32_66 : BitVec 32 := 1#32
  let c1_i32_69 : BitVec 32 := 1#32
  let v83 : BitVec 32 := Scalar.muli c1_i32_66 c1_i32_69
  let v84 : BitVec 32 := Scalar.addi v82 v83
  v84.toNat
def k0_dev24 : Nat :=
  let c0_i32_77 : BitVec 32 := 0#32
  let c1_i32_74 : BitVec 32 := 1#32
  let c2_i32_76 : BitVec 32 := 2#32
  let v92 : BitVec 32 := Scalar.muli c1_i32_74 c2_i32_76
  let v93 : BitVec 32 := Scalar.addi c0_i32_77 v92
  let c1_i32_75 : BitVec 32 := 1#32
  let c1_i32_78 : BitVec 32 := 1#32
  let v94 : BitVec 32 := Scalar.muli c1_i32_75 c1_i32_78
  let v95 : BitVec 32 := Scalar.addi v93 v94
  v95.toNat
def k0_dev25 : Nat :=
  let c0_i32_86 : BitVec 32 := 0#32
  let c1_i32_83 : BitVec 32 := 1#32
  let c2_i32_85 : BitVec 32 := 2#32
  let v103 : BitVec 32 := Scalar.muli c1_i32_83 c2_i32_85
  let v104 : BitVec 32 := Scalar.addi c0_i32_86 v103
  let c1_i32_84 : BitVec 32 := 1#32
  let c1_i32_87 : BitVec 32 := 1#32
  let v105 : BitVec 32 := Scalar.muli c1_i32_84 c1_i32_87
  let v106 : BitVec 32 := Scalar.addi v104 v105
  v106.toNat
def k0_dev26 : Nat :=
  let c0_i32_95 : BitVec 32 := 0#32
  let c1_i32_92 : BitVec 32 := 1#32
  let c2_i32_94 : BitVec 32 := 2#32
  let v114 : BitVec 32 := Scalar.muli c1_i32_92 c2_i32_94
  let v115 : BitVec 32 := Scalar.addi c0_i32_95 v114
  let c1_i32_93 : BitVec 32 := 1#32
  let c1_i32_96 : BitVec 32 := 1#32
  let v116 : BitVec 32 := Scalar.muli c1_i32_93 c1_i32_96
  let v117 : BitVec 32 := Scalar.addi v115 v116
  v117.toNat
def k0_dev27 : Nat :=
  let c0_i32_121 : BitVec 32 := 0#32
  let c0_i32_118 : BitVec 32 := 0#32
  let c2_i32_120 : BitVec 32 := 2#32
  let v139 : BitVec 32 := Scalar.muli c0_i32_118 c2_i32_120
  let v140 : BitVec 32 := Scalar.addi c0_i32_121 v139
  let c0_i32_119 : BitVec 32 := 0#32
  let c1_i32_122 : BitVec 32 := 1#32
  let v141 : BitVec 32 := Scalar.muli c0_i32_119 c1_i32_122
  let v142 : BitVec 32 := Scalar.addi v140 v141
  v142.toNat
def k0_dev28 : Nat :=
  let c0_i32_149 : BitVec 32 := 0#32
  let c0_i32_146 : BitVec 32 := 0#32
  let c2_i32_148 : BitVec 32 := 2#32
  let v163 : BitVec 32 := Scalar.muli c0_i32_146 c2_i32_148
  let v164 : BitVec 32 := Scalar.addi c0_i32_149 v163
  let c0_i32_147 : BitVec 32 := 0#32
  let c1_i32_150 : BitVec 32 := 1#32
  let v165 : BitVec 32 := Scalar.muli c0_i32_147 c1_i32_150
  let v166 : BitVec 32 := Scalar.addi v164 v165
  v166.toNat
def k0_dev29 : Nat :=
  let c0_i32_177 : BitVec 32 := 0#32
  let c0_i32_174 : BitVec 32 := 0#32
  let c2_i32_176 : BitVec 32 := 2#32
  let v187 : BitVec 32 := Scalar.muli c0_i32_174 c2_i32_176
  let v188 : BitVec 32 := Scalar.addi c0_i32_177 v187
  let c0_i32_175 : BitVec 32 := 0#32
  let c1_i32_178 : BitVec 32 := 1#32
  let v189 : BitVec 32 := Scalar.muli c0_i32_175 c1_i32_178
  let v190 : BitVec 32 := Scalar.addi v188 v189
  v190.toNat
def k0_dev30 : Nat :=
  let c0_i32_205 : BitVec 32 := 0#32
  let c0_i32_202 : BitVec 32 := 0#32
  let c2_i32_204 : BitVec 32 := 2#32
  let v211 : BitVec 32 := Scalar.muli c0_i32_202 c2_i32_204
  let v212 : BitVec 32 := Scalar.addi c0_i32_205 v211
  let c0_i32_203 : BitVec 32 := 0#32
  let c1_i32_206 : BitVec 32 := 1#32
  let v213 : BitVec 32 := Scalar.muli c0_i32_203 c1_i32_206
  let v214 : BitVec 32 := Scalar.addi v212 v213
  v214.toNat
def k0_dev31 : Nat :=
  let c0_i32_233 : BitVec 32 := 0#32
  let c0_i32_230 : BitVec 32 := 0#32
  let c2_i32_232 : BitVec 32 := 2#32
  let v235 : BitVec 32 := Scalar.muli c0_i32_230 c2_i32_232
  let v236 : BitVec 32 := Scalar.addi c0_i32_233 v235
  let c0_i32_231 : BitVec 32 := 0#32
  let c1_i32_234 : BitVec 32 := 1#32
  let v237 : BitVec 32 := Scalar.muli c0_i32_231 c1_i32_234
  let v238 : BitVec 32 := Scalar.addi v236 v237
  v238.toNat
def k0_dev32 : Nat :=
  let c0_i32_261 : BitVec 32 := 0#32
  let c0_i32_258 : BitVec 32 := 0#32
  let c2_i32_260 : BitVec 32 := 2#32
  let v259 : BitVec 32 := Scalar.muli c0_i32_258 c2_i32_260
  let v260 : BitVec 32 := Scalar.addi c0_i32_261 v259
  let c0_i32_259 : BitVec 32 := 0#32
  let c1_i32_262 : BitVec 32 := 1#32
  let v261 : BitVec 32 := Scalar.muli c0_i32_259 c1_i32_262
  let v262 : BitVec 32 := Scalar.addi v260 v261
  v262.toNat
def k0_dev33 : Nat :=
  let c0_i32_289 : BitVec 32 := 0#32
  let c0_i32_286 : BitVec 32 := 0#32
  let c2_i32_288 : BitVec 32 := 2#32
  let v283 : BitVec 32 := Scalar.muli c0_i32_286 c2_i32_288
  let v284 : BitVec 32 := Scalar.addi c0_i32_289 v283
  let c0_i32_287 : BitVec 32 := 0#32
  let c1_i32_290 : BitVec 32 := 1#32
  let v285 : BitVec 32 := Scalar.muli c0_i32_287 c1_i32_290
  let v286 : BitVec 32 := Scalar.addi v284 v285
  v286.toNat
def k0_dev34 : Nat :=
  let c0_i32_317 : BitVec 32 := 0#32
  let c0_i32_314 : BitVec 32 := 0#32
  let c2_i32_316 : BitVec 32 := 2#32
  let v307 : BitVec 32 := Scalar.muli c0_i32_314 c2_i32_316
  let v308 : BitVec 32 := Scalar.addi c0_i32_317 v307
  let c0_i32_315 : BitVec 32 := 0#32
  let c1_i32_318 : BitVec 32 := 1#32
  let v309 : BitVec 32 := Scalar.muli c0_i32_315 c1_i32_318
  let v310 : BitVec 32 := Scalar.addi v308 v309
  v310.toNat
def k0_cond3 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_18 : BitVec 32 := 1#32
  let v27 : BitVec 1 := Scalar.cmpi .eq v2 c1_i32_18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c0_i32_19 : BitVec 32 := 0#32
  let v28 : BitVec 1 := Scalar.cmpi .eq v5 c0_i32_19
  let v29 : BitVec 1 := Scalar.andi v27 v28
  let v30 : BitVec 32 := Scalar.extui v29
  let c0_i32_20 : BitVec 32 := 0#32
  let v31 : BitVec 1 := Scalar.cmpi .ne v30 c0_i32_20
  v31

def k0_dev35 : Nat :=
  let c0_i32_30 : BitVec 32 := 0#32
  let c0_i32_27 : BitVec 32 := 0#32
  let c2_i32_29 : BitVec 32 := 2#32
  let v37 : BitVec 32 := Scalar.muli c0_i32_27 c2_i32_29
  let v38 : BitVec 32 := Scalar.addi c0_i32_30 v37
  let c0_i32_28 : BitVec 32 := 0#32
  let c1_i32_31 : BitVec 32 := 1#32
  let v39 : BitVec 32 := Scalar.muli c0_i32_28 c1_i32_31
  let v40 : BitVec 32 := Scalar.addi v38 v39
  v40.toNat
def k0_dev36 : Nat :=
  let c0_i32_42 : BitVec 32 := 0#32
  let c0_i32_39 : BitVec 32 := 0#32
  let c2_i32_41 : BitVec 32 := 2#32
  let v48 : BitVec 32 := Scalar.muli c0_i32_39 c2_i32_41
  let v49 : BitVec 32 := Scalar.addi c0_i32_42 v48
  let c0_i32_40 : BitVec 32 := 0#32
  let c1_i32_43 : BitVec 32 := 1#32
  let v50 : BitVec 32 := Scalar.muli c0_i32_40 c1_i32_43
  let v51 : BitVec 32 := Scalar.addi v49 v50
  v51.toNat
def k0_dev37 : Nat :=
  let c0_i32_53 : BitVec 32 := 0#32
  let c0_i32_50 : BitVec 32 := 0#32
  let c2_i32_52 : BitVec 32 := 2#32
  let v59 : BitVec 32 := Scalar.muli c0_i32_50 c2_i32_52
  let v60 : BitVec 32 := Scalar.addi c0_i32_53 v59
  let c0_i32_51 : BitVec 32 := 0#32
  let c1_i32_54 : BitVec 32 := 1#32
  let v61 : BitVec 32 := Scalar.muli c0_i32_51 c1_i32_54
  let v62 : BitVec 32 := Scalar.addi v60 v61
  v62.toNat
def k0_dev38 : Nat :=
  let c0_i32_63 : BitVec 32 := 0#32
  let c0_i32_60 : BitVec 32 := 0#32
  let c2_i32_62 : BitVec 32 := 2#32
  let v70 : BitVec 32 := Scalar.muli c0_i32_60 c2_i32_62
  let v71 : BitVec 32 := Scalar.addi c0_i32_63 v70
  let c0_i32_61 : BitVec 32 := 0#32
  let c1_i32_64 : BitVec 32 := 1#32
  let v72 : BitVec 32 := Scalar.muli c0_i32_61 c1_i32_64
  let v73 : BitVec 32 := Scalar.addi v71 v72
  v73.toNat
def k0_dev39 : Nat :=
  let c0_i32_73 : BitVec 32 := 0#32
  let c0_i32_70 : BitVec 32 := 0#32
  let c2_i32_72 : BitVec 32 := 2#32
  let v81 : BitVec 32 := Scalar.muli c0_i32_70 c2_i32_72
  let v82 : BitVec 32 := Scalar.addi c0_i32_73 v81
  let c0_i32_71 : BitVec 32 := 0#32
  let c1_i32_74 : BitVec 32 := 1#32
  let v83 : BitVec 32 := Scalar.muli c0_i32_71 c1_i32_74
  let v84 : BitVec 32 := Scalar.addi v82 v83
  v84.toNat
def k0_dev40 : Nat :=
  let c0_i32_83 : BitVec 32 := 0#32
  let c0_i32_80 : BitVec 32 := 0#32
  let c2_i32_82 : BitVec 32 := 2#32
  let v92 : BitVec 32 := Scalar.muli c0_i32_80 c2_i32_82
  let v93 : BitVec 32 := Scalar.addi c0_i32_83 v92
  let c0_i32_81 : BitVec 32 := 0#32
  let c1_i32_84 : BitVec 32 := 1#32
  let v94 : BitVec 32 := Scalar.muli c0_i32_81 c1_i32_84
  let v95 : BitVec 32 := Scalar.addi v93 v94
  v95.toNat
def k0_dev41 : Nat :=
  let c0_i32_93 : BitVec 32 := 0#32
  let c0_i32_90 : BitVec 32 := 0#32
  let c2_i32_92 : BitVec 32 := 2#32
  let v103 : BitVec 32 := Scalar.muli c0_i32_90 c2_i32_92
  let v104 : BitVec 32 := Scalar.addi c0_i32_93 v103
  let c0_i32_91 : BitVec 32 := 0#32
  let c1_i32_94 : BitVec 32 := 1#32
  let v105 : BitVec 32 := Scalar.muli c0_i32_91 c1_i32_94
  let v106 : BitVec 32 := Scalar.addi v104 v105
  v106.toNat
def k0_dev42 : Nat :=
  let c0_i32_103 : BitVec 32 := 0#32
  let c0_i32_100 : BitVec 32 := 0#32
  let c2_i32_102 : BitVec 32 := 2#32
  let v114 : BitVec 32 := Scalar.muli c0_i32_100 c2_i32_102
  let v115 : BitVec 32 := Scalar.addi c0_i32_103 v114
  let c0_i32_101 : BitVec 32 := 0#32
  let c1_i32_104 : BitVec 32 := 1#32
  let v116 : BitVec 32 := Scalar.muli c0_i32_101 c1_i32_104
  let v117 : BitVec 32 := Scalar.addi v115 v116
  v117.toNat
def k0_dev43 : Nat :=
  let c0_i32_130 : BitVec 32 := 0#32
  let c1_i32_127 : BitVec 32 := 1#32
  let c2_i32_129 : BitVec 32 := 2#32
  let v139 : BitVec 32 := Scalar.muli c1_i32_127 c2_i32_129
  let v140 : BitVec 32 := Scalar.addi c0_i32_130 v139
  let c1_i32_128 : BitVec 32 := 1#32
  let c1_i32_131 : BitVec 32 := 1#32
  let v141 : BitVec 32 := Scalar.muli c1_i32_128 c1_i32_131
  let v142 : BitVec 32 := Scalar.addi v140 v141
  v142.toNat
def k0_dev44 : Nat :=
  let c0_i32_159 : BitVec 32 := 0#32
  let c1_i32_156 : BitVec 32 := 1#32
  let c2_i32_158 : BitVec 32 := 2#32
  let v163 : BitVec 32 := Scalar.muli c1_i32_156 c2_i32_158
  let v164 : BitVec 32 := Scalar.addi c0_i32_159 v163
  let c1_i32_157 : BitVec 32 := 1#32
  let c1_i32_160 : BitVec 32 := 1#32
  let v165 : BitVec 32 := Scalar.muli c1_i32_157 c1_i32_160
  let v166 : BitVec 32 := Scalar.addi v164 v165
  v166.toNat
def k0_dev45 : Nat :=
  let c0_i32_188 : BitVec 32 := 0#32
  let c1_i32_185 : BitVec 32 := 1#32
  let c2_i32_187 : BitVec 32 := 2#32
  let v187 : BitVec 32 := Scalar.muli c1_i32_185 c2_i32_187
  let v188 : BitVec 32 := Scalar.addi c0_i32_188 v187
  let c1_i32_186 : BitVec 32 := 1#32
  let c1_i32_189 : BitVec 32 := 1#32
  let v189 : BitVec 32 := Scalar.muli c1_i32_186 c1_i32_189
  let v190 : BitVec 32 := Scalar.addi v188 v189
  v190.toNat
def k0_dev46 : Nat :=
  let c0_i32_217 : BitVec 32 := 0#32
  let c1_i32_214 : BitVec 32 := 1#32
  let c2_i32_216 : BitVec 32 := 2#32
  let v211 : BitVec 32 := Scalar.muli c1_i32_214 c2_i32_216
  let v212 : BitVec 32 := Scalar.addi c0_i32_217 v211
  let c1_i32_215 : BitVec 32 := 1#32
  let c1_i32_218 : BitVec 32 := 1#32
  let v213 : BitVec 32 := Scalar.muli c1_i32_215 c1_i32_218
  let v214 : BitVec 32 := Scalar.addi v212 v213
  v214.toNat
def k0_dev47 : Nat :=
  let c0_i32_246 : BitVec 32 := 0#32
  let c1_i32_243 : BitVec 32 := 1#32
  let c2_i32_245 : BitVec 32 := 2#32
  let v235 : BitVec 32 := Scalar.muli c1_i32_243 c2_i32_245
  let v236 : BitVec 32 := Scalar.addi c0_i32_246 v235
  let c1_i32_244 : BitVec 32 := 1#32
  let c1_i32_247 : BitVec 32 := 1#32
  let v237 : BitVec 32 := Scalar.muli c1_i32_244 c1_i32_247
  let v238 : BitVec 32 := Scalar.addi v236 v237
  v238.toNat
def k0_dev48 : Nat :=
  let c0_i32_275 : BitVec 32 := 0#32
  let c1_i32_272 : BitVec 32 := 1#32
  let c2_i32_274 : BitVec 32 := 2#32
  let v259 : BitVec 32 := Scalar.muli c1_i32_272 c2_i32_274
  let v260 : BitVec 32 := Scalar.addi c0_i32_275 v259
  let c1_i32_273 : BitVec 32 := 1#32
  let c1_i32_276 : BitVec 32 := 1#32
  let v261 : BitVec 32 := Scalar.muli c1_i32_273 c1_i32_276
  let v262 : BitVec 32 := Scalar.addi v260 v261
  v262.toNat
def k0_dev49 : Nat :=
  let c0_i32_304 : BitVec 32 := 0#32
  let c1_i32_301 : BitVec 32 := 1#32
  let c2_i32_303 : BitVec 32 := 2#32
  let v283 : BitVec 32 := Scalar.muli c1_i32_301 c2_i32_303
  let v284 : BitVec 32 := Scalar.addi c0_i32_304 v283
  let c1_i32_302 : BitVec 32 := 1#32
  let c1_i32_305 : BitVec 32 := 1#32
  let v285 : BitVec 32 := Scalar.muli c1_i32_302 c1_i32_305
  let v286 : BitVec 32 := Scalar.addi v284 v285
  v286.toNat
def k0_dev50 : Nat :=
  let c0_i32_333 : BitVec 32 := 0#32
  let c1_i32_330 : BitVec 32 := 1#32
  let c2_i32_332 : BitVec 32 := 2#32
  let v307 : BitVec 32 := Scalar.muli c1_i32_330 c2_i32_332
  let v308 : BitVec 32 := Scalar.addi c0_i32_333 v307
  let c1_i32_331 : BitVec 32 := 1#32
  let c1_i32_334 : BitVec 32 := 1#32
  let v309 : BitVec 32 := Scalar.muli c1_i32_331 c1_i32_334
  let v310 : BitVec 32 := Scalar.addi v308 v309
  v310.toNat
def k0_cond4 (d0 : Dev nD) : BitVec 1 :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c1_i32_21 : BitVec 32 := 1#32
  let v32 : BitVec 1 := Scalar.cmpi .eq v2 c1_i32_21
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_22 : BitVec 32 := 1#32
  let v33 : BitVec 1 := Scalar.cmpi .eq v5 c1_i32_22
  let v34 : BitVec 1 := Scalar.andi v32 v33
  let v35 : BitVec 32 := Scalar.extui v34
  let c0_i32_23 : BitVec 32 := 0#32
  let v36 : BitVec 1 := Scalar.cmpi .ne v35 c0_i32_23
  v36

def k0_dev51 : Nat :=
  let c0_i32_30 : BitVec 32 := 0#32
  let c0_i32_27 : BitVec 32 := 0#32
  let c2_i32_29 : BitVec 32 := 2#32
  let v37 : BitVec 32 := Scalar.muli c0_i32_27 c2_i32_29
  let v38 : BitVec 32 := Scalar.addi c0_i32_30 v37
  let c1_i32_28 : BitVec 32 := 1#32
  let c1_i32_31 : BitVec 32 := 1#32
  let v39 : BitVec 32 := Scalar.muli c1_i32_28 c1_i32_31
  let v40 : BitVec 32 := Scalar.addi v38 v39
  v40.toNat
def k0_dev52 : Nat :=
  let c0_i32_41 : BitVec 32 := 0#32
  let c0_i32_38 : BitVec 32 := 0#32
  let c2_i32_40 : BitVec 32 := 2#32
  let v48 : BitVec 32 := Scalar.muli c0_i32_38 c2_i32_40
  let v49 : BitVec 32 := Scalar.addi c0_i32_41 v48
  let c1_i32_39 : BitVec 32 := 1#32
  let c1_i32_42 : BitVec 32 := 1#32
  let v50 : BitVec 32 := Scalar.muli c1_i32_39 c1_i32_42
  let v51 : BitVec 32 := Scalar.addi v49 v50
  v51.toNat
def k0_dev53 : Nat :=
  let c0_i32_51 : BitVec 32 := 0#32
  let c0_i32_48 : BitVec 32 := 0#32
  let c2_i32_50 : BitVec 32 := 2#32
  let v59 : BitVec 32 := Scalar.muli c0_i32_48 c2_i32_50
  let v60 : BitVec 32 := Scalar.addi c0_i32_51 v59
  let c1_i32_49 : BitVec 32 := 1#32
  let c1_i32_52 : BitVec 32 := 1#32
  let v61 : BitVec 32 := Scalar.muli c1_i32_49 c1_i32_52
  let v62 : BitVec 32 := Scalar.addi v60 v61
  v62.toNat
def k0_dev54 : Nat :=
  let c0_i32_60 : BitVec 32 := 0#32
  let c0_i32_57 : BitVec 32 := 0#32
  let c2_i32_59 : BitVec 32 := 2#32
  let v70 : BitVec 32 := Scalar.muli c0_i32_57 c2_i32_59
  let v71 : BitVec 32 := Scalar.addi c0_i32_60 v70
  let c1_i32_58 : BitVec 32 := 1#32
  let c1_i32_61 : BitVec 32 := 1#32
  let v72 : BitVec 32 := Scalar.muli c1_i32_58 c1_i32_61
  let v73 : BitVec 32 := Scalar.addi v71 v72
  v73.toNat
def k0_dev55 : Nat :=
  let c0_i32_69 : BitVec 32 := 0#32
  let c0_i32_66 : BitVec 32 := 0#32
  let c2_i32_68 : BitVec 32 := 2#32
  let v81 : BitVec 32 := Scalar.muli c0_i32_66 c2_i32_68
  let v82 : BitVec 32 := Scalar.addi c0_i32_69 v81
  let c1_i32_67 : BitVec 32 := 1#32
  let c1_i32_70 : BitVec 32 := 1#32
  let v83 : BitVec 32 := Scalar.muli c1_i32_67 c1_i32_70
  let v84 : BitVec 32 := Scalar.addi v82 v83
  v84.toNat
def k0_dev56 : Nat :=
  let c0_i32_78 : BitVec 32 := 0#32
  let c0_i32_75 : BitVec 32 := 0#32
  let c2_i32_77 : BitVec 32 := 2#32
  let v92 : BitVec 32 := Scalar.muli c0_i32_75 c2_i32_77
  let v93 : BitVec 32 := Scalar.addi c0_i32_78 v92
  let c1_i32_76 : BitVec 32 := 1#32
  let c1_i32_79 : BitVec 32 := 1#32
  let v94 : BitVec 32 := Scalar.muli c1_i32_76 c1_i32_79
  let v95 : BitVec 32 := Scalar.addi v93 v94
  v95.toNat
def k0_dev57 : Nat :=
  let c0_i32_87 : BitVec 32 := 0#32
  let c0_i32_84 : BitVec 32 := 0#32
  let c2_i32_86 : BitVec 32 := 2#32
  let v103 : BitVec 32 := Scalar.muli c0_i32_84 c2_i32_86
  let v104 : BitVec 32 := Scalar.addi c0_i32_87 v103
  let c1_i32_85 : BitVec 32 := 1#32
  let c1_i32_88 : BitVec 32 := 1#32
  let v105 : BitVec 32 := Scalar.muli c1_i32_85 c1_i32_88
  let v106 : BitVec 32 := Scalar.addi v104 v105
  v106.toNat
def k0_dev58 : Nat :=
  let c0_i32_96 : BitVec 32 := 0#32
  let c0_i32_93 : BitVec 32 := 0#32
  let c2_i32_95 : BitVec 32 := 2#32
  let v114 : BitVec 32 := Scalar.muli c0_i32_93 c2_i32_95
  let v115 : BitVec 32 := Scalar.addi c0_i32_96 v114
  let c1_i32_94 : BitVec 32 := 1#32
  let c1_i32_97 : BitVec 32 := 1#32
  let v116 : BitVec 32 := Scalar.muli c1_i32_94 c1_i32_97
  let v117 : BitVec 32 := Scalar.addi v115 v116
  v117.toNat
def k0_dev59 : Nat :=
  let c0_i32_121 : BitVec 32 := 0#32
  let c1_i32_118 : BitVec 32 := 1#32
  let c2_i32_120 : BitVec 32 := 2#32
  let v139 : BitVec 32 := Scalar.muli c1_i32_118 c2_i32_120
  let v140 : BitVec 32 := Scalar.addi c0_i32_121 v139
  let c0_i32_119 : BitVec 32 := 0#32
  let c1_i32_122 : BitVec 32 := 1#32
  let v141 : BitVec 32 := Scalar.muli c0_i32_119 c1_i32_122
  let v142 : BitVec 32 := Scalar.addi v140 v141
  v142.toNat
def k0_dev60 : Nat :=
  let c0_i32_149 : BitVec 32 := 0#32
  let c1_i32_146 : BitVec 32 := 1#32
  let c2_i32_148 : BitVec 32 := 2#32
  let v163 : BitVec 32 := Scalar.muli c1_i32_146 c2_i32_148
  let v164 : BitVec 32 := Scalar.addi c0_i32_149 v163
  let c0_i32_147 : BitVec 32 := 0#32
  let c1_i32_150 : BitVec 32 := 1#32
  let v165 : BitVec 32 := Scalar.muli c0_i32_147 c1_i32_150
  let v166 : BitVec 32 := Scalar.addi v164 v165
  v166.toNat
def k0_dev61 : Nat :=
  let c0_i32_177 : BitVec 32 := 0#32
  let c1_i32_174 : BitVec 32 := 1#32
  let c2_i32_176 : BitVec 32 := 2#32
  let v187 : BitVec 32 := Scalar.muli c1_i32_174 c2_i32_176
  let v188 : BitVec 32 := Scalar.addi c0_i32_177 v187
  let c0_i32_175 : BitVec 32 := 0#32
  let c1_i32_178 : BitVec 32 := 1#32
  let v189 : BitVec 32 := Scalar.muli c0_i32_175 c1_i32_178
  let v190 : BitVec 32 := Scalar.addi v188 v189
  v190.toNat
def k0_dev62 : Nat :=
  let c0_i32_205 : BitVec 32 := 0#32
  let c1_i32_202 : BitVec 32 := 1#32
  let c2_i32_204 : BitVec 32 := 2#32
  let v211 : BitVec 32 := Scalar.muli c1_i32_202 c2_i32_204
  let v212 : BitVec 32 := Scalar.addi c0_i32_205 v211
  let c0_i32_203 : BitVec 32 := 0#32
  let c1_i32_206 : BitVec 32 := 1#32
  let v213 : BitVec 32 := Scalar.muli c0_i32_203 c1_i32_206
  let v214 : BitVec 32 := Scalar.addi v212 v213
  v214.toNat
def k0_dev63 : Nat :=
  let c0_i32_233 : BitVec 32 := 0#32
  let c1_i32_230 : BitVec 32 := 1#32
  let c2_i32_232 : BitVec 32 := 2#32
  let v235 : BitVec 32 := Scalar.muli c1_i32_230 c2_i32_232
  let v236 : BitVec 32 := Scalar.addi c0_i32_233 v235
  let c0_i32_231 : BitVec 32 := 0#32
  let c1_i32_234 : BitVec 32 := 1#32
  let v237 : BitVec 32 := Scalar.muli c0_i32_231 c1_i32_234
  let v238 : BitVec 32 := Scalar.addi v236 v237
  v238.toNat
def k0_dev64 : Nat :=
  let c0_i32_261 : BitVec 32 := 0#32
  let c1_i32_258 : BitVec 32 := 1#32
  let c2_i32_260 : BitVec 32 := 2#32
  let v259 : BitVec 32 := Scalar.muli c1_i32_258 c2_i32_260
  let v260 : BitVec 32 := Scalar.addi c0_i32_261 v259
  let c0_i32_259 : BitVec 32 := 0#32
  let c1_i32_262 : BitVec 32 := 1#32
  let v261 : BitVec 32 := Scalar.muli c0_i32_259 c1_i32_262
  let v262 : BitVec 32 := Scalar.addi v260 v261
  v262.toNat
def k0_dev65 : Nat :=
  let c0_i32_289 : BitVec 32 := 0#32
  let c1_i32_286 : BitVec 32 := 1#32
  let c2_i32_288 : BitVec 32 := 2#32
  let v283 : BitVec 32 := Scalar.muli c1_i32_286 c2_i32_288
  let v284 : BitVec 32 := Scalar.addi c0_i32_289 v283
  let c0_i32_287 : BitVec 32 := 0#32
  let c1_i32_290 : BitVec 32 := 1#32
  let v285 : BitVec 32 := Scalar.muli c0_i32_287 c1_i32_290
  let v286 : BitVec 32 := Scalar.addi v284 v285
  v286.toNat
def k0_dev66 : Nat :=
  let c0_i32_317 : BitVec 32 := 0#32
  let c1_i32_314 : BitVec 32 := 1#32
  let c2_i32_316 : BitVec 32 := 2#32
  let v307 : BitVec 32 := Scalar.muli c1_i32_314 c2_i32_316
  let v308 : BitVec 32 := Scalar.addi c0_i32_317 v307
  let c0_i32_315 : BitVec 32 := 0#32
  let c1_i32_318 : BitVec 32 := 1#32
  let v309 : BitVec 32 := Scalar.muli c0_i32_315 c1_i32_318
  let v310 : BitVec 32 := Scalar.addi v308 v309
  v310.toNat
abbrev stage0_0 : Fin 1 → Memref sig .tc .vmem S1x512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x512x1024 : Shape := ⟨3, ![2, 512, 1024]⟩
abbrev S_ : Shape := ⟨0, ![]⟩
abbrev S512x1024 : Shape := ⟨2, ![512, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S_, .f32⟩
  | .hbm, ⟨2, _⟩ => ⟨S512x1024, .f32⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Uniform.lean ====
/-
# The body of one device, written once

The printed body has four branches, one for each place of the mesh, and each branch has its loops unrolled over the
eight chunks with every offset a literal. Here is the same program with the place `(px, py)` and the chunk as
parameters; `body_uniform` says that the printed body is it.
-/
module

public import proofs.«01_k».proof.Proof.Gen.KernelIdeal
public import proofs.«01_k».proof.Proof.Gen.KernelIdeal.Skeleton
public import proofs.«01_k».proof.Proof.Gen.KernelIdeal.Launch

@[expose] public section

noncomputable section

namespace Cert.Halves

open Cert.KernelIdeal Cert.KernelIdeal.Gen
open Idealize.ShloMosaic Idealize.SL.Sem

variable {F : FTy → Type} [FloatOps F]

/-! ## Places on the mesh -/

/-- The other one of two. -/
def other (p : Fin 2) : Fin 2 := ⟨1 - p.val, by omega⟩

/-- Device `c` sits at `(xOf c, yOf c)`. -/
def xOf (c : Dev nD) : Fin 2 := ⟨c.val / 2, by have h : c.val < 4 := c.isLt; omega⟩
def yOf (c : Dev nD) : Fin 2 := ⟨c.val % 2, by omega⟩

/-- The neighbour along x: the device that shares the row half. -/
def nbX (c : Dev nD) : Dev nD := ⟨2 * (1 - c.val / 2) + c.val % 2, by show _ < 4; omega⟩
/-- The neighbour along y: the device that holds the same block of x. -/
def nbY (c : Dev nD) : Dev nD := ⟨2 * (c.val / 2) + (1 - c.val % 2), by have h : c.val < 4 := c.isLt; show _ < 4; omega⟩

/-! ## The pieces of the buffers -/

abbrev xM : Memref sig .tc .vmem S1x512x1024 .f32 := Memref.whole cc0_stg0_0
abbrev oM : Memref sig .tc .vmem S512x512 .f32 := Memref.whole cc0_stg1_0
abbrev cM : Memref sig .tc .vmem S256x512 .f32 := Memref.whole cc0_scratch0

theorem xRect_inb (h q : Fin 2) (k : Fin 8) :
    ∀ a, (![0, 256 * h.val + 32 * k.val, 512 * q.val] : Fin 3 → Nat) a + S1x32x512.size a ≤ S1x512x1024.size a := by
  revert h q k; decide
theorem oRect_inb (h : Fin 2) (k : Fin 8) :
    ∀ a, (![256 * h.val + 32 * k.val, 0] : Fin 2 → Nat) a + S32x512.size a ≤ S512x512.size a := by
  revert h k; decide
theorem cRect_inb (k : Fin 8) : ∀ a, (![32 * k.val, 0] : Fin 2 → Nat) a + S32x512.size a ≤ S256x512.size a := by
  revert k; decide
theorem sRect_inb (k : Fin 8) : ∀ a, (![k.val] : Fin 1 → Nat) a + S1.size a ≤ S8.size a := by
  revert k; decide

/-- Chunk `k` of row half `h`, column half `q`, of the block of x. -/
abbrev xRect (h q : Fin 2) (k : Fin 8) : Rect S1x512x1024 :=
  Rect.unit (s := S1x512x1024) ![0, 256 * h.val + 32 * k.val, 512 * q.val] S1x32x512.size (xRect_inb h q k)
/-- Chunk `k` of row half `h` of the result. -/
abbrev oRect (h : Fin 2) (k : Fin 8) : Rect S512x512 :=
  Rect.unit (s := S512x512) ![256 * h.val + 32 * k.val, 0] S32x512.size (oRect_inb h k)
/-- Chunk `k` of the landing buffer. -/
abbrev cRect (k : Fin 8) : Rect S256x512 := Rect.unit (s := S256x512) ![32 * k.val, 0] S32x512.size (cRect_inb k)

abbrev xPiece (h q : Fin 2) (k : Fin 8) : Memref sig .tc .vmem S32x512 .f32 :=
  (xM.slice (xRect h q k) (fun _ => rfl)).squeeze S32x512 squeezes_S1x32x512_S32x512
abbrev oPiece (h : Fin 2) (k : Fin 8) : Memref sig .tc .vmem S32x512 .f32 := oM.slice (oRect h k) (fun _ => rfl)
abbrev cPiece (k : Fin 8) : Memref sig .tc .vmem S32x512 .f32 := cM.slice (cRect k) (fun _ => rfl)

/-- Member `k` of an array of eight transfer semaphores. -/
abbrev semOf (A : DmaSems sig S8) (k : Fin 8) : DmaSem sig :=
  ((A.slice (Rect.unit (s := S8) ![k.val] S1.size (sRect_inb k))).squeeze S_ squeezes_S1_S_).sem

/-- What a chunk of the result is: the own rows added to the landed rows. -/
def addRows (a : Vec F S1x32x512 .f32) (b : Vec F S32x512 .f32) : FVec F S32x512 .f32 :=
  addf (shapeCast S32x512 a shapeCasts_S1x32x512_S32x512) b

/-! ## The program -/

/-- The program of a device, over the effects of its core. -/
abbrev P (F : FTy → Type) : Type 1 := Prog (TpuEff nD τ sig (Elt F) Λ₀ .tc) PUnit

/-- One action for each chunk of a list, in order. -/
def each : List (Fin 8) → (Fin 8 → P F) → P F
  | [], _ => .ret ⟨⟩
  | k :: l, f => f k >>= fun _ => each l f

/-- The eight chunks in order. -/
abbrev chunks : List (Fin 8) := [0, 1, 2, 3, 4, 5, 6, 7]

/-- Send chunk `k` of the columns that the x neighbour `d` sums. -/
def sendX (px py : Fin 2) (d : Dev nD) (k : Fin 8) : P F :=
  Prog.lift (.enqueueDma (xPiece py (other px) k) (.remote (Dev.tc d) (cPiece k) (.dma (semOf cc0_scratch1 k))) (.dma (semOf cc0_scratch2 k))
    ((View.wordExact_bits rfl).reshape _ _) (View.wordExact_bits rfl) ⟨⟨rfl, Or.inl rfl⟩, trivial⟩)

/-- Wait for the neighbour's chunk `k`, add it to the own rows, store the sum, send it to the y neighbour `d`. -/
def addChunk (px py : Fin 2) (d : Dev nD) (k : Fin 8) : P F :=
  Prog.lift (.waitDma2 (semOf cc0_scratch2 k) (xPiece py (other px) k) (cPiece k) ((View.wordExact_bits rfl).reshape _ _) (View.wordExact_bits rfl)) >>= fun _ =>
  Prog.lift (.load xM (xRect py px k).toLoadRect (View.loadsAt_vmem h_S1x32x512)) >>= fun a =>
  Prog.lift (.load cM (cRect k).toLoadRect (View.loadsAt_vmem h_S32x512)) >>= fun b =>
  Prog.lift (.load oM (oRect py k).toLoadRect (View.loadsAt_vmem h_S32x512)) >>= fun _ =>
  Prog.lift (.store oM (oRect py k) (addRows a b) Finset.univ (View.stores_vmem_bits_univ h_S32x512 rfl) (.inl rfl)) >>= fun _ =>
  Prog.lift (.enqueueDma (oPiece py k) (.remote (Dev.tc d) (oPiece py k) (.dma (semOf cc0_scratch3 k))) (.dma (semOf cc0_scratch4 k))
    (View.wordExact_bits rfl) (View.wordExact_bits rfl) ⟨⟨rfl, Or.inl rfl⟩, trivial⟩)

/-- Wait for chunk `k` of the other row half. -/
def awaitRows (py : Fin 2) (k : Fin 8) : P F :=
  Prog.lift (.waitDma2 (semOf cc0_scratch4 k) (oPiece (other py) k) (oPiece (other py) k) (View.wordExact_bits rfl) (View.wordExact_bits rfl))

/-- Wait until the two sends of chunk `k` have left. -/
def awaitSends (px py : Fin 2) (k : Fin 8) : P F :=
  Prog.lift (.waitDma2 (semOf cc0_scratch1 k) (cPiece k) (xPiece py (other px) k) (View.wordExact_bits rfl) ((View.wordExact_bits rfl).reshape _ _)) >>= fun _ =>
  Prog.lift (.waitDma2 (semOf cc0_scratch3 k) (oPiece py k) (oPiece py k) (View.wordExact_bits rfl) (View.wordExact_bits rfl))

/-- What the device at place `(px, py)` with neighbours `dx` and `dy` runs after the handshake. -/
def exchange (px py : Fin 2) (dx dy : Dev nD) : P F :=
  each chunks (sendX px py dx) >>= fun _ => each chunks (addChunk px py dy) >>= fun _ =>
    each chunks (awaitRows py) >>= fun _ => each chunks (awaitSends px py)

/-- The handshake with both neighbours, then the exchange. -/
def uniform (c : Dev nD) : P F :=
  semSignalWord (nbX c) barrier0 1#32 >>= fun _ => semSignalWord (nbY c) barrier0 1#32 >>= fun _ =>
    semWaitWord barrier0 2#32 >>= fun _ => exchange (xOf c) (yOf c) (nbX c) (nbY c)

/-- The kernel's body at its buffers. -/
abbrev theBody : P F :=
  cc0_body (F := F) (Memref.whole cc0_stg0_0) (Memref.isWhole_whole _) (Memref.whole cc0_stg1_0) (Memref.isWhole_whole _)
    (Memref.whole cc0_scratch0) (Memref.isWhole_whole _) cc0_scratch1 cc0_scratch2 cc0_scratch3 cc0_scratch4

/-- Which of the printed branches a device takes: the one of its place and no other. -/
theorem conds (c : Dev nD) : (k0_cond1 c = 1#1 ↔ c = 0) ∧ (k0_cond2 c = 1#1 ↔ c = 1) ∧ (k0_cond3 c = 1#1 ↔ c = 2) ∧ (k0_cond4 c = 1#1 ↔ c = 3) := by
  revert c; decide +kernel

/-- The two words of its place that the first part passes on. -/
def word1 (c : Dev nD) : BitVec 32 := Scalar.remsi (Scalar.divsi (Dev.word c) 2#32) 2#32
def word2 (c : Dev nD) : BitVec 32 := Scalar.remsi (Scalar.divsi (Dev.word c) 1#32) 2#32

set_option maxRecDepth 100000 in
/-- The first part: the handshake and the branches of the devices 0 and 1. -/
theorem part69_eq : k0_part69 (F := F) (Memref.whole cc0_stg0_0) (Memref.isWhole_whole _) (Memref.whole cc0_stg1_0) (Memref.isWhole_whole _)
      (Memref.whole cc0_scratch0) (Memref.isWhole_whole _) cc0_scratch1 cc0_scratch2 cc0_scratch3 cc0_scratch4
    = Prog.lift .deviceId >>= fun c => semSignalWord (⟨k0_dev1 c, k0_dev1_lt c⟩ : Dev nD) barrier0 1#32 >>= fun _ =>
        semSignalWord (⟨k0_dev2 c, k0_dev2_lt c⟩ : Dev nD) barrier0 1#32 >>= fun _ => semWaitWord barrier0 2#32 >>= fun _ =>
        (if k0_cond1 c = 1#1 then exchange 0 0 2 1 else .ret ⟨⟩) >>= fun _ => (if k0_cond2 c = 1#1 then exchange 0 1 3 0 else .ret ⟨⟩) >>= fun _ =>
        .ret ⟨c, word1 c, word2 c, Scalar.andi (Scalar.cmpi .eq (word1 c) 1#32) (Scalar.cmpi .eq (word2 c) 0#32)⟩ := by
  rw [k0_part69_eq_skeleton]
  refine congrArg (Prog.op _) (funext fun c => congrArg (Prog.op _) (funext fun _ => congrArg (Prog.op _) (funext fun _ => congrArg (Prog.op _) (funext fun _ => ?_))))
  by_cases h1 : k0_cond1 c = 1#1
  · have h2 : ¬ k0_cond2 c = 1#1 := by rw [(conds c).2.1, (conds c).1.mp h1]; decide
    simp only [dif_pos h1, if_pos h1, dif_neg h2, if_neg h2]
    rfl
  · by_cases h2 : k0_cond2 c = 1#1
    · simp only [dif_neg h1, if_neg h1, dif_pos h2, if_pos h2]
      rfl
    · simp only [dif_neg h1, if_neg h1, dif_neg h2, if_neg h2]
      rfl

set_option maxRecDepth 100000 in
/-- The whole body: the first part and the branches of the devices 2 and 3. -/
theorem body_eq : (theBody : P F) = k0_part69 (F := F) (Memref.whole cc0_stg0_0) (Memref.isWhole_whole _) (Memref.whole cc0_stg1_0) (Memref.isWhole_whole _)
      (Memref.whole cc0_scratch0) (Memref.isWhole_whole _) cc0_scratch1 cc0_scratch2 cc0_scratch3 cc0_scratch4 >>= fun w =>
    (if k0_cond3 w.1 = 1#1 then exchange 1 0 0 3 else .ret ⟨⟩) >>= fun _ => (if k0_cond4 w.1 = 1#1 then exchange 1 1 1 2 else .ret ⟨⟩) := by
  unfold theBody
  rw [cc0_body_eq_skeleton]
  refine congrArg (fun f => k0_part69 (F := F) (Memref.whole cc0_stg0_0) (Memref.isWhole_whole _) (Memref.whole cc0_stg1_0) (Memref.isWhole_whole _)
      (Memref.whole cc0_scratch0) (Memref.isWhole_whole _) cc0_scratch1 cc0_scratch2 cc0_scratch3 cc0_scratch4 >>= f) (funext fun w => ?_)
  obtain ⟨c, w1, w2, w3⟩ := w
  by_cases h3 : k0_cond3 c = 1#1
  · have h4 : ¬ k0_cond4 c = 1#1 := by rw [(conds c).2.2.2, (conds c).2.2.1.mp h3]; decide
    simp only [dif_pos h3, if_pos h3, dif_neg h4, if_neg h4]
    rfl
  · by_cases h4 : k0_cond4 c = 1#1
    · simp only [dif_neg h3, if_neg h3, dif_pos h4, if_pos h4]
      rfl
    · simp only [dif_neg h3, if_neg h3, dif_neg h4, if_neg h4]
      rfl

theorem dev1_nbX (c : Dev nD) : (⟨k0_dev1 c, k0_dev1_lt c⟩ : Dev nD) = nbX c := by revert c; decide +kernel
theorem dev2_nbY (c : Dev nD) : (⟨k0_dev2 c, k0_dev2_lt c⟩ : Dev nD) = nbY c := by revert c; decide +kernel

/-- Of the four branches the one of the device's place runs. -/
theorem branch_eq (c : Dev nD) : (if k0_cond1 c = 1#1 then exchange (F := F) 0 0 2 1 else .ret ⟨⟩) >>= (fun _ =>
    (if k0_cond2 c = 1#1 then exchange 0 1 3 0 else .ret ⟨⟩) >>= fun _ => (if k0_cond3 c = 1#1 then exchange 1 0 0 3 else .ret ⟨⟩) >>= fun _ =>
    (if k0_cond4 c = 1#1 then exchange 1 1 1 2 else .ret ⟨⟩)) = exchange (xOf c) (yOf c) (nbX c) (nbY c) := by
  simp only [(conds c).1, (conds c).2.1, (conds c).2.2.1, (conds c).2.2.2]
  have hr : ∀ p : P F, (p >>= fun _ => (.ret ⟨⟩ : P F)) = p := fun p => Prog.bind_pure p
  match c with
  | 0 => exact hr _
  | 1 => exact hr _
  | 2 => exact hr _
  | 3 => rfl

/-- The printed body asks for its device id and runs the uniform program of that device. -/
theorem body_uniform : (theBody : P F) = Prog.lift .deviceId >>= fun c => uniform c := by
  rw [body_eq, part69_eq]
  simp only [Prog.bind_assoc, dev1_nbX, dev2_nbY]
  refine congrArg (Prog.op _) (funext fun c => congrArg (Prog.op _) (funext fun _ => congrArg (Prog.op _) (funext fun _ => congrArg (Prog.op _) (funext fun _ => ?_))))
  exact branch_eq c

end Cert.Halves

end
-- ==== Proof.Pieces.lean ====
/-
# The pieces of the buffers and what they hold

The block of x in the staging buffer falls into thirty-two pieces (row half, column half, chunk), the result into
sixteen (row half, chunk), the landing buffer into eight. Here are their element sets, and what a copied or stored piece
holds: a landed chunk holds the neighbour's rows, a stored chunk the sums.
-/
module

public import proofs.«01_k».proof.Proof.Uniform
public import Idealize.ShloMosaic.Lib.ValueLayout

@[expose] public section

noncomputable section

namespace Cert.Halves

open Cert.KernelIdeal Cert.KernelIdeal.Gen
open Idealize.ShloMosaic Idealize.SL.Sem
open Idealize.ShloMosaic.ValueIdx

variable {F : FTy → Type} [FloatOps F]

/-! ## Places and neighbours -/

theorem nbX_nbX (c : Dev nD) : nbX (nbX c) = c := by revert c; decide
theorem nbY_nbY (c : Dev nD) : nbY (nbY c) = c := by revert c; decide
theorem xOf_nbX (c : Dev nD) : xOf (nbX c) = other (xOf c) := by revert c; decide
theorem yOf_nbX (c : Dev nD) : yOf (nbX c) = yOf c := by revert c; decide
theorem xOf_nbY (c : Dev nD) : xOf (nbY c) = xOf c := by revert c; decide
theorem yOf_nbY (c : Dev nD) : yOf (nbY c) = other (yOf c) := by revert c; decide
theorem other_other (p : Fin 2) : other (other p) = p := by revert p; decide
theorem other_ne (p : Fin 2) : other p ≠ p := by revert p; decide

/-- The device at place `(p, q)`. -/
def devAt (p q : Fin 2) : Dev nD := ⟨2 * p.val + q.val, by show _ < 4; omega⟩
theorem devAt_self (c : Dev nD) : devAt (xOf c) (yOf c) = c := by revert c; decide
theorem devAt_nbX (c : Dev nD) : devAt (other (xOf c)) (yOf c) = nbX c := by revert c; decide

/-! ## Element sets -/

theorem mem_xRect {h q : Fin 2} {k : Fin 8} {i : S1x512x1024.Idx} :
    i ∈ (xRect h q k).set ↔ (256 * h.val + 32 * k.val ≤ (i 1).val ∧ (i 1).val < 256 * h.val + 32 * k.val + 32)
      ∧ 512 * q.val ≤ (i 2).val ∧ (i 2).val < 512 * q.val + 512 := by
  rw [Rect.mem_set_unit, Fin.forall_fin_succ, Fin.forall_fin_succ, Fin.forall_fin_succ]
  have h0 : (i 0).val < 1 := (i 0).isLt
  constructor
  · rintro ⟨-, h1, h2, -⟩
    exact ⟨h1, h2⟩
  · rintro ⟨h1, h2⟩
    exact ⟨⟨Nat.zero_le _, h0⟩, h1, h2, fun a => a.elim0⟩

theorem mem_oRect {h : Fin 2} {k : Fin 8} {i : S512x512.Idx} :
    i ∈ (oRect h k).set ↔ 256 * h.val + 32 * k.val ≤ (i 0).val ∧ (i 0).val < 256 * h.val + 32 * k.val + 32 := by
  rw [Rect.mem_set_unit, Fin.forall_fin_succ, Fin.forall_fin_succ]
  have h1 : (i 1).val < 512 := (i 1).isLt
  constructor
  · rintro ⟨h0, -⟩
    exact h0
  · intro h0
    exact ⟨h0, ⟨Nat.zero_le _, h1.trans_le (Nat.le_add_left _ _)⟩, fun a => a.elim0⟩

theorem mem_cRect {k : Fin 8} {i : S256x512.Idx} :
    i ∈ (cRect k).set ↔ 32 * k.val ≤ (i 0).val ∧ (i 0).val < 32 * k.val + 32 := by
  rw [Rect.mem_set_unit, Fin.forall_fin_succ, Fin.forall_fin_succ]
  have h1 : (i 1).val < 512 := (i 1).isLt
  constructor
  · rintro ⟨h0, -⟩
    exact h0
  · intro h0
    exact ⟨h0, ⟨Nat.zero_le _, h1.trans_le (Nat.le_add_left _ _)⟩, fun a => a.elim0⟩

theorem xPiece_set (h q : Fin 2) (k : Fin 8) : (xPiece h q k).view.set = (xRect h q k).set := by
  have h1 : (xPiece h q k).view.set = (xM.slice (xRect h q k) (fun _ => rfl)).view.set := View.set_reshape _ _
  exact h1.trans (View.set_slice_whole _ _)
theorem oPiece_set (h : Fin 2) (k : Fin 8) : (oPiece h k).view.set = (oRect h k).set := View.set_slice_whole _ _
theorem cPiece_set (k : Fin 8) : (cPiece k).view.set = (cRect k).set := View.set_slice_whole _ _

/-- The pieces of each buffer are apart, and together they are the buffer. -/
theorem xRect_apart (t t' : Fin 2 × Fin 2 × Fin 8) (ht : t ≠ t') : Disjoint (xRect t.1 t.2.1 t.2.2).set (xRect t'.1 t'.2.1 t'.2.2).set := by
  refine Finset.disjoint_left.mpr fun i hi hi' => ht ?_
  rw [mem_xRect] at hi hi'
  exact Prod.ext (Fin.ext (by omega)) (Prod.ext (Fin.ext (by omega)) (Fin.ext (by omega)))
theorem xRect_cover (i : S1x512x1024.Idx) : ∃ t : Fin 2 × Fin 2 × Fin 8, i ∈ (xRect t.1 t.2.1 t.2.2).set := by
  have h1 : (i 1).val < 512 := (i 1).isLt
  have h2 : (i 2).val < 1024 := (i 2).isLt
  refine ⟨(⟨(i 1).val / 256, by omega⟩, ⟨(i 2).val / 512, by omega⟩, ⟨(i 1).val % 256 / 32, by omega⟩), mem_xRect.mpr ?_⟩
  dsimp only
  omega

theorem oRect_apart (t t' : Fin 2 × Fin 8) (ht : t ≠ t') : Disjoint (oRect t.1 t.2).set (oRect t'.1 t'.2).set := by
  refine Finset.disjoint_left.mpr fun i hi hi' => ht ?_
  rw [mem_oRect] at hi hi'
  exact Prod.ext (Fin.ext (by omega)) (Fin.ext (by omega))
theorem oRect_cover (i : S512x512.Idx) : ∃ t : Fin 2 × Fin 8, i ∈ (oRect t.1 t.2).set := by
  have h0 : (i 0).val < 512 := (i 0).isLt
  refine ⟨(⟨(i 0).val / 256, by omega⟩, ⟨(i 0).val % 256 / 32, by omega⟩), mem_oRect.mpr ?_⟩
  dsimp only
  omega

theorem cRect_apart (t t' : Fin 8) (ht : t ≠ t') : Disjoint (cRect t).set (cRect t').set := by
  refine Finset.disjoint_left.mpr fun i hi hi' => ht ?_
  rw [mem_cRect] at hi hi'
  exact Fin.ext (by omega)
theorem cRect_cover (i : S256x512.Idx) : ∃ t : Fin 8, i ∈ (cRect t).set := by
  have h0 : (i 0).val < 256 := (i 0).isLt
  refine ⟨⟨(i 0).val / 32, by omega⟩, mem_cRect.mpr ?_⟩
  dsimp only
  omega

/-! ## Where a piece's element lies -/

/-- Element `(a, b)` of a piece of the block of x, of the result, of the landing buffer. -/
def xAt (h q : Fin 2) (k : Fin 8) (a : Fin 32) (b : Fin 512) : S1x512x1024.Idx :=
  ix3 (0 : Fin 1) (⟨256 * h.val + 32 * k.val + a.val, by omega⟩ : Fin 512) (⟨512 * q.val + b.val, by omega⟩ : Fin 1024)
def oAt (h : Fin 2) (k : Fin 8) (a : Fin 32) (b : Fin 512) : S512x512.Idx := ix2 (⟨256 * h.val + 32 * k.val + a.val, by omega⟩ : Fin 512) b
def cAt (k : Fin 8) (a : Fin 32) (b : Fin 512) : S256x512.Idx := ix2 (⟨32 * k.val + a.val, by omega⟩ : Fin 256) b

theorem unit_axis (p : Nat) {n : Nat} (a : Fin n) : p + 1 * a.val = p + a.val := by rw [Nat.one_mul]

theorem xRect_emb (h q : Fin 2) (k : Fin 8) (a : Fin 32) (b : Fin 512) : (xRect h q k).emb (ix3 (0 : Fin 1) a b) = xAt h q k a b := by
  funext d
  match d with
  | ⟨0, _⟩ => rfl
  | ⟨1, _⟩ => exact Fin.ext (unit_axis (256 * h.val + 32 * k.val) a)
  | ⟨2, _⟩ => exact Fin.ext (unit_axis (512 * q.val) b)

theorem xPiece_emb (h q : Fin 2) (k : Fin 8) (a : Fin 32) (b : Fin 512) : (xPiece h q k).view.emb (ix2 a b) = xAt h q k a b :=
  (congrArg (xRect h q k).emb (reshapeEquiv_ix2_1ab _ a b)).trans (xRect_emb h q k a b)

theorem oPiece_emb (h : Fin 2) (k : Fin 8) (a : Fin 32) (b : Fin 512) : (oPiece h k).view.emb (ix2 a b) = oAt h k a b := by
  funext d
  match d with
  | ⟨0, _⟩ => exact Fin.ext (unit_axis (256 * h.val + 32 * k.val) a)
  | ⟨1, _⟩ => exact Fin.ext ((unit_axis 0 b).trans (Nat.zero_add _))

theorem cPiece_emb (k : Fin 8) (a : Fin 32) (b : Fin 512) : (cPiece k).view.emb (ix2 a b) = cAt k a b := by
  funext d
  match d with
  | ⟨0, _⟩ => exact Fin.ext (unit_axis (32 * k.val) a)
  | ⟨1, _⟩ => exact Fin.ext ((unit_axis 0 b).trans (Nat.zero_add _))

/-- Every element of a piece is `(a, b)` for some `a` and `b`. -/
theorem at_of_mem {v : View sig .tc .vmem S32x512 .f32} {i : v.ty.Idx} (hi : i ∈ v.set) : ∃ (a : Fin 32) (b : Fin 512), v.emb (ix2 a b) = i := by
  obtain ⟨j, -, rfl⟩ := Finset.mem_map.mp hi
  exact ⟨j 0, j 1, congrArg v.emb (eq_ix2 j).symm⟩

/-! ## What the buffers hold -/

variable (X : Dev nD → S1x512x1024.Idx → F .f32)

/-- What lands in the landing buffer of `c`: the x neighbour's rows of the own row half, at the own column half. -/
def landing (c : Dev nD) : S256x512.Idx → F .f32 := fun i =>
  X (nbX c) (ix3 (0 : Fin 1) (⟨256 * (yOf c).val + (i 0).val, by have h : (i 0).val < 256 := (i 0).isLt; omega⟩ : Fin 512)
    (⟨512 * (xOf c).val + (i 1).val, by have h : (i 1).val < 512 := (i 1).isLt; omega⟩ : Fin 1024))

/-- The row half an element of the result lies in. -/
def halfOf (i : S512x512.Idx) : Fin 2 := ⟨(i 0).val / 256, by have h : (i 0).val < 512 := (i 0).isLt; omega⟩

/-- An element of the result at column half `p`, as an element of a block of x. -/
def wide (p : Fin 2) (i : S512x512.Idx) : S1x512x1024.Idx :=
  ix3 (0 : Fin 1) (⟨(i 0).val, (i 0).isLt⟩ : Fin 512) (⟨512 * p.val + (i 1).val, by have h : (i 1).val < 512 := (i 1).isLt; omega⟩ : Fin 1024)

/-- The result of the devices at x place `p`: the sum of the block held there and of the block held at the other x
    place, taken in each row half by the two devices that share it. -/
def total (p : Fin 2) : S512x512.Idx → F .f32 := fun i =>
  FloatOps.addf (X (devAt p (halfOf i)) (wide p i)) (X (devAt (other p) (halfOf i)) (wide p i))

theorem landing_at (c : Dev nD) (k : Fin 8) (a : Fin 32) (b : Fin 512) : landing X c (cAt k a b) = X (nbX c) (xAt (yOf c) (xOf c) k a b) := by
  refine congrArg (X (nbX c)) (funext fun d => ?_)
  match d with
  | ⟨0, _⟩ => rfl
  | ⟨1, _⟩ => exact Fin.ext (Nat.add_assoc _ _ _).symm
  | ⟨2, _⟩ => rfl

theorem total_at (c : Dev nD) (k : Fin 8) (a : Fin 32) (b : Fin 512) :
    total X (xOf c) (oAt (yOf c) k a b) = FloatOps.addf (X c (xAt (yOf c) (xOf c) k a b)) (X (nbX c) (xAt (yOf c) (xOf c) k a b)) := by
  have hh : halfOf (oAt (yOf c) k a b) = yOf c := Fin.ext (by show (256 * (yOf c).val + 32 * k.val + a.val) / 256 = _; omega)
  have hw : wide (xOf c) (oAt (yOf c) k a b) = xAt (yOf c) (xOf c) k a b := rfl
  unfold total
  rw [hh, hw, devAt_self, devAt_nbX]

/-- A chunk sent along x arrives as the landing buffer's chunk. -/
theorem landing_write (c : Dev nD) (k : Fin 8) (fd : S256x512.Idx → F .f32) (i : S256x512.Idx) (hi : i ∈ (cPiece k).view.set) :
    (cPiece k).view.write (Elt F) fd ((xPiece (yOf c) (xOf c) k).view.read (Elt F) (X (nbX c))) Finset.univ i = landing X c i := by
  obtain ⟨a, b, rfl⟩ := at_of_mem hi
  refine (View.write_emb_of_mem _ _ (Finset.mem_univ _)).trans ((cast_eq _ _).trans ?_)
  refine (congrArg (X (nbX c)) (xPiece_emb (yOf c) (xOf c) k a b)).trans ?_
  exact (landing_at X c k a b).symm.trans (congrArg (landing X c) (cPiece_emb k a b).symm)

/-- The sum of the own rows and the landed rows is the result's chunk. -/
theorem total_write (c : Dev nD) (k : Fin 8) (fd : S512x512.Idx → F .f32) (i : S512x512.Idx) (hi : i ∈ (oPiece (yOf c) k).view.set) :
    ((oM.access (oRect (yOf c) k) : View sig .tc _ _ _).write (Elt F) fd
      (addRows (xM.view.readAt (Elt F) (xRect (yOf c) (xOf c) k).toLoadRect (X c)) (cM.view.readAt (Elt F) (cRect k).toLoadRect (landing X c))) Finset.univ) i
      = total X (xOf c) i := by
  obtain ⟨a, b, rfl⟩ := at_of_mem hi
  refine (View.write_emb_of_mem (v := oM.access (oRect (yOf c) k)) _ _ (Finset.mem_univ (ix2 a b))).trans ((cast_eq _ _).trans ?_)
  refine Eq.trans ?_ ((total_at X c k a b).symm.trans (congrArg (total X (xOf c)) (oPiece_emb (yOf c) k a b).symm))
  refine congrArg₂ FloatOps.addf (congrArg (X c) (xPiece_emb (yOf c) (xOf c) k a b)) ?_
  exact (congrArg (landing X c) (cPiece_emb k a b)).trans (landing_at X c k a b)

/-- A chunk copied from the same place of another device's result is that device's chunk. -/
theorem copy_write (h : Fin 2) (k : Fin 8) (fd fs : S512x512.Idx → F .f32) (i : S512x512.Idx) (hi : i ∈ (oPiece h k).view.set) :
    (oPiece h k).view.write (Elt F) fd ((oPiece h k).view.read (Elt F) fs) Finset.univ i = fs i := by
  obtain ⟨a, b, rfl⟩ := at_of_mem hi
  exact (View.write_emb_of_mem _ _ (Finset.mem_univ _)).trans (cast_eq _ _)

end Cert.Halves

end
-- ==== Proof.Protocol.lean ====
/-
# Who hands what to whom

Each device has thirty-three cells: the barrier, and for each chunk the four transfer semaphores. A cell has one round.
The barrier's round has one unit from either neighbour: the x neighbour's hands over its landing buffer, the y
neighbour's hands over the row half of its result that the device is to fill. A transfer's round has the credit of one
chunk: at the receiver it hands over the chunk that has landed, at the sender it gives the source back.
-/
module

public import proofs.«01_k».proof.Proof.Pieces
public import Idealize.ShloMosaic.Lib.Pipeline.Launch
public import Idealize.ShloMosaic.Lib.Pipeline.Kit
public import Idealize.ShloMosaic.Lib.Tactic

@[expose] public section

noncomputable section

namespace Cert.Halves

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's rounds and the exchange's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- A device's cells: `none` the barrier; `some (a, k)` the semaphore of chunk `k` in the `a`-th array, the arrays being
    sent along x, received along x, sent along y, received along y. -/
abbrev Slot : Type := Option (Fin 4 × Fin 8)
abbrev sx (k : Fin 8) : Slot := some (0, k)
abbrev rx (k : Fin 8) : Slot := some (1, k)
abbrev sy (k : Fin 8) : Slot := some (2, k)
abbrev ry (k : Fin 8) : Slot := some (3, k)

def semArr : Fin 4 → DmaSems sig S8
  | 0 => cc0_scratch1 | 1 => cc0_scratch2 | 2 => cc0_scratch3 | 3 => cc0_scratch4

def slotSem : Slot → SemLoc sig
  | none => .reg barrier0
  | some p => .dma (semOf (semArr p.1) p.2)

/-- The slot a semaphore is, if it is one of the thirty-three. -/
def slotOf : SemLoc sig → Option Slot
  | .reg _ => some none
  | .dma s => if h : 2 ≤ s.val ∧ s.val < 34 then some (some (⟨(s.val - 2) / 8, by omega⟩, ⟨(s.val - 2) % 8, by omega⟩)) else none

theorem slotOf_slotSem (x : Slot) : slotOf (slotSem x) = some x := by revert x; decide +kernel
theorem slotSem_injective : Function.Injective slotSem := fun x y h => Option.some.inj ((slotOf_slotSem x).symm.trans ((congrArg slotOf h).trans (slotOf_slotSem y)))

/-- The cell of device `c` at slot `x`. -/
abbrev cell (c : Dev nD) (x : Slot) : GSem nD τ sig := ((c : Thread nD τ), slotSem x)

/-- A chunk's credit. -/
abbrev N : ℕ := (cPiece 0).view.dmaCredit
theorem N_pos : 0 < N := View.dmaCredit_pos _ (by decide)
theorem credit_x (h q : Fin 2) (k : Fin 8) : (xPiece h q k).view.dmaCredit = N := rfl
theorem credit_o (h : Fin 2) (k : Fin 8) : (oPiece h k).view.dmaCredit = N := rfl
theorem credit_c (k : Fin 8) : (cPiece k).view.dmaCredit = N := rfl

/-! ## The pieces owned -/

variable (X : Dev nD → S1x512x1024.Idx → F .f32)

/-- Device `c` has a piece of its block of x, holding that block's elements. -/
abbrev xHas (c : Dev nD) (h q : Fin 2) (k : Fin 8) : sProp 𝕄 :=
  (xPiece h q k).view.loc (c : Thread nD τ) ↦[(xPiece h q k).view.set]{fullShare} X c
/-- A chunk of the result on device `c`, holding those elements of `f`. -/
abbrev oHas (c : Dev nD) (h : Fin 2) (k : Fin 8) (f : S512x512.Idx → F .f32) : sProp 𝕄 :=
  (oPiece h k).view.loc (c : Thread nD τ) ↦[(oPiece h k).view.set]{fullShare} f
/-- A chunk of the landing buffer on device `c`, holding those elements of `f`. -/
abbrev cHas (c : Dev nD) (k : Fin 8) (f : S256x512.Idx → F .f32) : sProp 𝕄 :=
  (cPiece k).view.loc (c : Thread nD τ) ↦[(cPiece k).view.set]{fullShare} f

/-! ## The schedule -/

/-- What a duty of slot `x` of device `c` hands over. -/
def pay (c : Dev nD) : Slot → Bool → sProp 𝕄
  | none, false => bigSep Finset.univ fun k : Fin 8 => iprop(∃ f, cHas (nbX c) k f)
  | none, true => bigSep Finset.univ fun k : Fin 8 => iprop(∃ f, oHas (nbY c) (yOf c) k f)
  | some (0, k), _ => xHas X c (yOf c) (other (xOf c)) k
  | some (1, k), _ => cHas c k (landing X c)
  | some (2, k), _ => oHas c (yOf c) k (total X (xOf c))
  | some (3, k), _ => oHas c (other (yOf c)) k (total X (xOf c))

theorem pay_sx (c : Dev nD) (k : Fin 8) (d : Bool) : pay X c (sx k) d = xHas X c (yOf c) (other (xOf c)) k := rfl
theorem pay_rx (c : Dev nD) (k : Fin 8) (d : Bool) : pay X c (rx k) d = cHas c k (landing X c) := rfl
theorem pay_sy (c : Dev nD) (k : Fin 8) (d : Bool) : pay X c (sy k) d = oHas c (yOf c) k (total X (xOf c)) := rfl
theorem pay_ry (c : Dev nD) (k : Fin 8) (d : Bool) : pay X c (ry k) d = oHas c (other (yOf c)) k (total X (xOf c)) := rfl

instance pay_storable (c : Dev nD) (x : Slot) (d : Bool) : BI.Storable (upEmb : UEmb _ 𝕄) (pay X c x d) := by
  unfold pay
  split <;> infer_instance

/-- The duties of a slot: both for the barrier, one for a transfer. -/
def dutiesOf : Slot → Finset Bool
  | none => Finset.univ
  | some _ => {false}
def amountOfSlot : Slot → ℕ
  | none => 1
  | some _ => N

theorem amountOfSlot_pos (x : Slot) : 0 < amountOfSlot x := by
  cases x with
  | none => exact Nat.one_pos
  | some p => exact N_pos

def sched : Rounds.Schedule (GSem nD τ sig) Bool 𝕄 where
  duties g r := if r = 0 ∧ g.1.2 = .tc then (slotOf g.2).elim ∅ dutiesOf else ∅
  unitless _ := False
  amount g _ _ := (slotOf g.2).elim 1 amountOfSlot
  payload g _ d := (slotOf g.2).elim iprop(emp) fun x => pay X g.1.1 x d
  amount_pos g _ _ _ := by
    cases slotOf g.2 with
    | none => exact Nat.one_pos
    | some x => exact amountOfSlot_pos x

instance sched_storable (g : GSem nD τ sig) (r : ℕ) (d : Bool) : BI.Storable (upEmb : UEmb _ 𝕄) ((sched X).payload g r d) := by
  show BI.Storable upEmb ((slotOf g.2).elim iprop(emp) fun x => pay X g.1.1 x d)
  cases slotOf g.2 with
  | none => exact inferInstanceAs (BI.Storable upEmb iprop(emp))
  | some x => exact pay_storable X g.1.1 x d

section Facts
variable (c : Dev nD)

theorem duties_cell (x : Slot) : (sched X).duties (cell c x) 0 = dutiesOf x := by
  dsimp only [sched, cell]; rw [if_pos ⟨rfl, rfl⟩, slotOf_slotSem]; rfl
theorem duties_after (g : GSem nD τ sig) (r : ℕ) (hr : 1 ≤ r) : (sched X).duties g r = ∅ := by
  dsimp only [sched]; exact if_neg fun h => by omega
theorem amount_cell (x : Slot) (d : Bool) : (sched X).amount (cell c x) 0 d = amountOfSlot x := by
  dsimp only [sched, cell]; rw [slotOf_slotSem]; rfl
theorem payload_cell (x : Slot) (d : Bool) : (sched X).payload (cell c x) 0 d = pay X c x d := by
  dsimp only [sched, cell]; rw [slotOf_slotSem]; rfl

theorem expect_barrier : (sched X).expect (cell c none) 0 = 2 := by
  unfold Schedule.expect Schedule.amountOf
  rw [duties_cell, Finset.sum_congr rfl fun d _ => amount_cell X c none d]; rfl
theorem expect_transfer (p : Fin 4 × Fin 8) : (sched X).expect (cell c (some p)) 0 = N := by
  unfold Schedule.expect Schedule.amountOf
  rw [duties_cell]
  exact (Finset.sum_singleton _ _).trans (amount_cell X c (some p) false)

/-- What a completed wait on the barrier brings. -/
theorem rest_barrier : bigSep ((sched X).duties (cell c none) 0 \ ∅) (fun d => (sched X).payload (cell c none) 0 d)
    = iprop(pay X c none false ∗ pay X c none true) := by
  rw [Finset.sdiff_empty, duties_cell, bigSep_congr fun d _ => payload_cell X c none d]
  exact bigSep_univ_eq_bigSepL [false, true] (by decide) (by decide) _
/-- What a completed wait on a transfer brings. -/
theorem rest_transfer (p : Fin 4 × Fin 8) : bigSep ((sched X).duties (cell c (some p)) 0 \ ∅) (fun d => (sched X).payload (cell c (some p)) 0 d)
    = pay X c (some p) false := by
  rw [Finset.sdiff_empty, duties_cell]
  exact bigSep_singleton.trans (payload_cell X c (some p) false)

end Facts

/-! ## What each device owes, and the levels -/

/-- One chunk's credit at the slot `x k` of device `d`, for each chunk of a list. -/
def due (d : Dev nD) (x : Fin 8 → Slot) : List (Fin 8) → CellTallies nD τ sig Unit
  | [] => 0
  | k :: l => due d x l + tallyAt (cell d (x k)) () N

theorem due_pos {d : Dev nD} {x : Fin 8 → Slot} {l : List (Fin 8)} {g : GSem nD τ sig} {u : Unit} (h : 0 < due d x l g u) : ∃ k, g = cell d (x k) := by
  induction l with
  | nil => exact absurd h (Nat.lt_irrefl 0)
  | cons k l ih =>
    unfold due at h
    rw [Pi.add_apply, Finsupp.add_apply, tallyAt_apply] at h
    by_cases hg : g = cell d (x k) ∧ u = ()
    · exact ⟨k, hg.1⟩
    · rw [if_neg hg] at h; exact ih h

/-- What device `c` owes to the receive cells of both neighbours; with the two signals, what it owes at the start. -/
def owedSends (c : Dev nD) (lx ly : List (Fin 8)) : CellTallies nD τ sig Unit := due (nbX c) rx lx + due (nbY c) ry ly
def owed1 (c : Dev nD) : CellTallies nD τ sig Unit := owedSends c chunks chunks + tallyAt (cell (nbY c) none) () 1
def owed0 (c : Dev nD) : CellTallies nD τ sig Unit := owed1 c + tallyAt (cell (nbX c) none) () 1

def L (g : GSem nD τ sig) : Finset Unit := if g.1.2 = .tc then {()} else ∅
theorem L_of_ne (g : GSem nD τ sig) (h : g.1.2 ≠ .tc) : L g = ∅ := if_neg h
theorem mem_L (c : Dev nD) (s : SemLoc sig) (u : Unit) : u ∈ L ((c : Thread nD τ), s) := by
  rw [show L ((c : Thread nD τ), s) = {()} from if_pos rfl]; exact Finset.mem_singleton_self _

/-- The levels: the barrier, then the chunks received along x, then those received along y; all else lowest. -/
def slotLevel : Slot → ℕ
  | none => 1
  | some (1, _) => 2
  | some (3, _) => 3
  | some _ => 0
def lv (g : GSem nD τ sig) (_ : Unit) : ℕ := (slotOf g.2).elim 0 slotLevel
theorem lv_cell (c : Dev nD) (x : Slot) (u : Unit) : lv (cell c x) u = slotLevel x := by
  unfold lv; rw [slotOf_slotSem]; rfl

/-- A wait on a semaphore of level at most `n` is allowed while all that is owed lies at slots above `n`. -/
theorem mayWait_below (c : Dev nD) (s : SemLoc sig) (O : CellTallies nD τ sig Unit) (n : ℕ) (hs : lv ((c : Thread nD τ), s) () ≤ n)
    (hO : ∀ g u, 0 < O g u → ∃ d x, g = cell d x ∧ n < slotLevel x) : (levAts L lv : sProp 𝕄) ⊢ MayWait (c : Thread nD τ) s () O :=
  MayOwe.of_cut (L := L) (lev := lv) n (fun p hp => by rw [Finset.mem_singleton.mp hp]; exact mem_L c s ())
    (fun g u hg => by obtain ⟨d, x, rfl, -⟩ := hO g u hg; exact mem_L d _ u)
    (fun p hp => by rw [Finset.mem_singleton.mp hp]; exact hs)
    (fun g u hg => by obtain ⟨d, x, rfl, hx⟩ := hO g u hg; rw [lv_cell]; exact hx)

theorem owedSends_pos {c : Dev nD} {lx ly : List (Fin 8)} {g : GSem nD τ sig} {u : Unit} (h : 0 < owedSends c lx ly g u) :
    (∃ k, g = cell (nbX c) (rx k)) ∨ ∃ k, g = cell (nbY c) (ry k) := by
  unfold owedSends at h
  rw [Pi.add_apply, Finsupp.add_apply] at h
  by_cases hx : 0 < due (nbX c) rx lx g u
  · exact .inl (due_pos hx)
  · exact .inr (due_pos (l := ly) (u := u) (by omega))

/-- At the barrier a device owes to receive cells only. -/
theorem mayWait_barrier (c : Dev nD) : (levAts L lv : sProp 𝕄) ⊢ MayWait (c : Thread nD τ) (slotSem none) () (owedSends c chunks chunks) :=
  mayWait_below c _ _ 1 (by rw [lv_cell c none]; exact le_rfl) fun g u hg => by
    rcases owedSends_pos hg with ⟨k, rfl⟩ | ⟨k, rfl⟩
    · exact ⟨_, _, rfl, by show 1 < 2; decide⟩
    · exact ⟨_, _, rfl, by show 1 < 3; decide⟩

/-- At a wait for a chunk along x a device owes to the receive cells of the y neighbour only. -/
theorem mayWait_rx (c : Dev nD) (k : Fin 8) (l : List (Fin 8)) : (levAts L lv : sProp 𝕄) ⊢ MayWait (c : Thread nD τ) (slotSem (rx k)) () (due (nbY c) ry l) :=
  mayWait_below c _ _ 2 (by rw [lv_cell c (rx k)]; exact le_rfl) fun g u hg => by
    obtain ⟨j, rfl⟩ := due_pos hg
    exact ⟨_, _, rfl, by show 2 < 3; decide⟩

theorem owed0_pos {c : Dev nD} {g : GSem nD τ sig} {u : Unit} (h : 0 < owed0 c g u) : ∃ d x, g = cell d x ∧ 0 < slotLevel x := by
  unfold owed0 owed1 at h
  rw [Pi.add_apply, Finsupp.add_apply, Pi.add_apply, Finsupp.add_apply, tallyAt_apply, tallyAt_apply] at h
  by_cases h1 : g = cell (nbX c) none ∧ u = ()
  · exact ⟨_, _, h1.1, Nat.one_pos⟩
  by_cases h2 : g = cell (nbY c) none ∧ u = ()
  · exact ⟨_, _, h2.1, Nat.one_pos⟩
  rw [if_neg h1, if_neg h2] at h
  rcases owedSends_pos h with ⟨k, rfl⟩ | ⟨k, rfl⟩
  · exact ⟨_, _, rfl, by show 0 < 2; decide⟩
  · exact ⟨_, _, rfl, by show 0 < 3; decide⟩

/-- A wait of the staging transfers, whose semaphores are none of the slots. -/
theorem mayWait_staging (c : Dev nD) (s : SemLoc sig) (hs : slotOf s = none) (O : CellTallies nD τ sig Unit) (hO : O = owed0 c ∨ O = 0) :
    (levAts L lv : sProp 𝕄) ⊢ MayWait (c : Thread nD τ) s () O :=
  mayWait_below c s O 0 (by unfold lv; rw [hs]; exact le_rfl) fun g u hg => by
    rcases hO with rfl | rfl
    · exact owed0_pos hg
    · exact absurd hg (Nat.lt_irrefl 0)

end Cert.Halves

end
-- ==== Proof.Chunks.lean ====
/-
# What a device does with one chunk

Each action of the body on one chunk, from what it takes to what it leaves, and the rule that repeats an action over the
chunks of a list.
-/
module

public import proofs.«01_k».proof.Proof.Protocol

@[expose] public section

noncomputable section

namespace Cert.Halves

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- Device `c` runs `p` and ends with `Q`. -/
abbrev runs (c : Dev nD) (p : P F) (Q : PUnit → sProp 𝕄) : sProp 𝕄 := wp frame (wpE (defs₀ (F := F)) 𝒱₀ (c : Thread nD τ) none) Set.univ p Q

/-! ## Repeating an action over a list of chunks -/

theorem bigSep_cons {k : Fin 8} {s : Finset (Fin 8)} (hk : k ∉ s) (Φ : Fin 8 → sProp 𝕄) : bigSep (insert k s) Φ = iprop(Φ k ∗ bigSep s Φ) := bigSep_insert hk

/-- If the action on a chunk turns `Pre k` into `Post k` and takes the state of the chunks to do from `k :: l` to `l`,
    given what always holds (`R`), the repeated action turns all of `Pre` into all of `Post`. -/
theorem runs_each (c : Dev nD) (f : Fin 8 → P F) (R : sProp 𝕄) [BI.Persistent R] (Pre Post : Fin 8 → sProp 𝕄) (S : List (Fin 8) → sProp 𝕄)
    (step : ∀ k l (Q : PUnit → sProp 𝕄), iprop(R ∗ Pre k ∗ S (k :: l) ∗ ((Post k ∗ S l) -∗ Q ⟨⟩)) ⊢ runs c (f k) Q) :
    ∀ (l : List (Fin 8)) (hl : l.Nodup) (Q : PUnit → sProp 𝕄),
      iprop(R ∗ bigSep l.toFinset Pre ∗ S l ∗ ((bigSep l.toFinset Post ∗ S []) -∗ Q ⟨⟩)) ⊢ runs c (each l f) Q := by
  intro l
  induction l with
  | nil =>
    intro hl Q
    unfold runs each
    rw [wp_ret]
    iintro ⟨-, -, HS, HQ⟩
    imodintro
    iapply HQ
    isplitr [HS]
    · rw [List.toFinset_nil, bigSep_empty]; iempintro
    · iexact HS
  | cons k l ih =>
    intro hl Q
    have hk : k ∉ l.toFinset := fun h => (List.nodup_cons.mp hl).1 (List.mem_toFinset.mp h)
    unfold runs each
    rw [wp_bind, List.toFinset_cons, bigSep_cons hk, bigSep_cons hk]
    iintro ⟨#HR, ⟨Hk, Hl⟩, HS, HQ⟩
    iapply (step k l)
    isplitr; · iexact HR
    isplitl [Hk]; · iexact Hk
    isplitl [HS]; · iexact HS
    iintro ⟨Hk, HS⟩
    iapply (ih (List.nodup_cons.mp hl).2 Q)
    isplitr; · iexact HR
    isplitl [Hl]; · iexact Hl
    isplitl [HS]; · iexact HS
    iintro ⟨Hl, HS⟩
    iapply HQ
    isplitl [Hk Hl]
    · isplitl [Hk] <;> iassumption
    · iexact HS

/-- `Φ` for all the chunks. -/
abbrev every (Φ : Fin 8 → sProp 𝕄) : sProp 𝕄 := bigSep Finset.univ Φ

/-- The rule over all the chunks. -/
theorem runs_chunks (c : Dev nD) (f : Fin 8 → P F) (R : sProp 𝕄) [BI.Persistent R] (Pre Post : Fin 8 → sProp 𝕄) (S : List (Fin 8) → sProp 𝕄)
    (step : ∀ k l (Q : PUnit → sProp 𝕄), iprop(R ∗ Pre k ∗ S (k :: l) ∗ ((Post k ∗ S l) -∗ Q ⟨⟩)) ⊢ runs c (f k) Q) (Q : PUnit → sProp 𝕄) :
    iprop(R ∗ every Pre ∗ S chunks ∗ ((every Post ∗ S []) -∗ Q ⟨⟩)) ⊢ runs c (each chunks f) Q := by
  have h := runs_each c f R Pre Post S step chunks (by decide) Q
  rwa [show chunks.toFinset = Finset.univ from by decide] at h

/-! ## The cells' records -/

variable (X : Dev nD → S1x512x1024.Idx → F .f32) (K : Dev nD × Slot → ℕ)

/-- Every cell's invariant, under the names `K`, and that every cell has reached round 0. -/
def records : sProp 𝕄 :=
  iprop((bigSep Finset.univ fun p : Dev nD × Slot => cellInv ER (sched X) (K p) (cell p.1 p.2))
    ∗ bigSep Finset.univ fun p : Dev nD × Slot => reached ER (cell p.1 p.2) 0)

instance records_persistent : BI.Persistent (records X K) := by unfold records; infer_instance

theorem records_inv (c : Dev nD) (x : Slot) : records X K ⊢ cellInv ER (sched X) (K (c, x)) (cell c x) := by
  unfold records
  iintro ⟨H, -⟩
  iapply (show (bigSep Finset.univ fun p : Dev nD × Slot => (cellInv ER (sched X) (K p) (cell p.1 p.2) : sProp 𝕄)) ⊢ cellInv ER (sched X) (K (c, x)) (cell c x) from
    bigSep_elim (Finset.mem_univ (c, x)))
  iexact H
theorem records_reached (c : Dev nD) (x : Slot) : records X K ⊢ reached ER (cell c x) 0 := by
  unfold records
  iintro ⟨-, H⟩
  iapply (show (bigSep Finset.univ fun p : Dev nD × Slot => (reached ER (cell p.1 p.2) 0 : sProp 𝕄)) ⊢ reached ER (cell c x) 0 from
    bigSep_elim (Finset.mem_univ (c, x)))
  iexact H

/-! ## Sending and waiting, at the cells -/

/-- A chunk sent from device `c` to device `d`: the source and the destination piece go, with the duties of the sender's
    cell `a` and the receiver's cell `b`; the credit of the sender's cell comes. -/
theorem runs_send (c d : Dev nD) (a b : Fin 4 × Fin 8) {src dst : Memref sig .tc .vmem S32x512 .f32} {hsc : dst.view.ref.isScScratch = false}
    {hsrc : src.view.WordExact} {hdst : dst.view.WordExact}
    {hsem : DmaTarget.Typed .vmem (slotSem (some b)) (.remote (Dev.tc d : Thread nD τ) dst (slotSem (some a)) hsc)} {k : PUnit → P F} {Q : PUnit → sProp 𝕄}
    (hN : dst.view.amount (slotSem (some b)) = N)
    (fs : Buf (Elt F) (src.view.loc (c : Thread nD τ))) (fd : Buf (Elt F) (dst.view.loc (d : Thread nD τ)))
    (O : CellTallies nD τ sig Unit) {O' : CellTallies nD τ sig Unit} (hO : O' = O + tallyAt (cell d (some b)) () N) (W : Waits sig Unit)
    (hback : (src.view.loc (c : Thread nD τ) ↦[src.view.set]{fullShare} fs : sProp 𝕄) ⊢ pay X c (some a) false)
    (hland : (dst.view.loc (d : Thread nD τ) ↦[dst.view.set]{fullShare} (dst.view.write (Elt F) fd (src.view.read (Elt F) fs) Finset.univ) : sProp 𝕄) ⊢ pay X d (some b) false) :
    iprop(records X K ∗ (src.view.loc (c : Thread nD τ) ↦[src.view.set]{fullShare} fs) ∗ (dst.view.loc (d : Thread nD τ) ↦[dst.view.set]{fullShare} fd)
        ∗ owes (c : Thread nD τ) O' W ∗ dutyTok ER (cell c (some a)) 0 false ∗ dutyTok ER (cell d (some b)) 0 false)
      ⊢ iprop(((cred (tallyAt (cell c (some a)) () N) ∗ owes (c : Thread nD τ) O W) -∗ runs c (k ⟨⟩) Q)
          -∗ runs c (.op (.enqueueDma src (.remote (Dev.tc d : Thread nD τ) dst (slotSem (some a)) hsc) (slotSem (some b)) hsrc hdst hsem) k) Q) := by
  iintro ⟨#HR, Hs, Hd, HO, Ha, Hb⟩
  ihave #Ia := (records_inv X K c (some a)) $$ HR
  ihave #Ib := (records_inv X K d (some b)) $$ HR
  ihave #Ra := (records_reached X K c (some a)) $$ HR
  ihave #Rb := (records_reached X K d (some b)) $$ HR
  iapply (Rounds.wp_send_pointsTo 𝒱₀ ER (sched X) (c : Thread nD τ) none (κ₁ := K (c, some a)) (κ₂ := K (d, some b))
    (r₁ := 0) (r₂ := 0) (d₁ := false) (d₂ := false) (fs := fs) (fd := fd)
    (by rw [duties_cell X c (some a)]; exact Finset.mem_singleton_self _) (by rw [duties_cell X d (some b)]; exact Finset.mem_singleton_self _)
    () () N hN (amount_cell X c (some a) false) (amount_cell X d (some b) false) O hO (W := W)
    (by rw [payload_cell X c (some a)]; exact hback) (by rw [payload_cell X d (some b)]; exact hland))
  isplitr; · iexact Ia
  isplitr; · iexact Ib
  isplitl [Hs]; · iexact Hs
  isplitl [Hd]; · iexact Hd
  isplitl [HO]; · iexact HO
  isplitl [Ha]; · iexact Ha
  isplitr; · iexact Ra
  isplitl [Hb]; · iexact Hb
  iexact Rb

/-- A wait for the chunk of cell `a`: its credit goes, what its duty hands over comes. -/
theorem runs_wait (c : Dev nD) (a : Fin 4 × Fin 8) {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ (slotSem (some a)) N Q)
    {k : PUnit → P F} {Q : PUnit → sProp 𝕄} (O : CellTallies nD τ sig Unit) (W : Waits sig Unit)
    (hO : (levAts L lv : sProp 𝕄) ⊢ MayWait (c : Thread nD τ) (slotSem (some a)) () O) :
    iprop(records X K ∗ levAts L lv ∗ cred (tallyAt (cell c (some a)) () N) ∗ owes (c : Thread nD τ) O W ∗ atPos ER (cell c (some a)) 0 ∅ 0)
      ⊢ iprop(((owes (c : Thread nD τ) O (insert (slotSem (some a), ()) W) ∗ atPos ER (cell c (some a)) 1 ∅ 0 ∗ pay X c (some a) false) -∗ runs c (k ⟨⟩) Q)
          -∗ runs c (.op w k) Q) := by
  iintro ⟨#HR, #HL, Hc, HO, Hat⟩ HQ
  ihave #Ia := (records_inv X K c (some a)) $$ HR
  iapply (Rounds.wp_wait_rest_token 𝒱₀ ER (sched X) (c : Thread nD τ) none (κ := K (c, some a)) hw (Set.mem_univ _) () (O := O) (W := W) (R := 0) (m := 0) (T := ∅)
      (by rw [Nat.zero_add, expect_transfer X c a])) $$ [Hc HO Hat]
  · isplitr; · iexact Ia
    isplitl [Hc]; · iexact Hc
    isplitl [HO]; · iexact HO
    isplitr; · iapply hO; iexact HL
    iexact Hat
  iintro ⟨HO, Hat, -, Hp⟩
  ihave Hp := (Entails.of_eq (rest_transfer X c a)) $$ Hp
  iapply HQ
  isplitl [HO]; · iexact HO
  isplitl [Hat]; · iexact Hat
  iexact Hp

/-! ## The actions on a chunk -/

/-- The duties of device `c`'s four semaphores of chunk `k` are paid at the neighbour or at `c` itself. -/
abbrev tok (d : Dev nD) (x : Slot) : sProp 𝕄 := dutyTok ER (cell d x) 0 false
abbrev credit (c : Dev nD) (x : Slot) : sProp 𝕄 := cred (tallyAt (cell c x) () N)
/-- Device `c` owes `O`, whatever it has waited for. -/
abbrev owesSome (c : Dev nD) (O : CellTallies nD τ sig Unit) : sProp 𝕄 := iprop(∃ W, owes (c : Thread nD τ) O W)
/-- Device `c` has not waited on its cell `x`; has waited on it. -/
abbrev fresh (c : Dev nD) (x : Slot) : sProp 𝕄 := atPos ER (cell c x) 0 ∅ 0
abbrev waited (c : Dev nD) (x : Slot) : sProp 𝕄 := atPos ER (cell c x) 1 ∅ 0

section Actions
variable (c : Dev nD) (k : Fin 8) (l : List (Fin 8))

/-- The send along x. -/
theorem runs_sendX (ly : List (Fin 8)) (Q : PUnit → sProp 𝕄) :
    iprop(records X K ∗ (xHas X c (yOf c) (other (xOf c)) k ∗ (∃ f, cHas (nbX c) k f) ∗ tok c (sx k) ∗ tok (nbX c) (rx k))
        ∗ owesSome c (owedSends c (k :: l) ly) ∗ ((credit c (sx k) ∗ owesSome c (owedSends c l ly)) -∗ Q ⟨⟩))
      ⊢ runs c (sendX (xOf c) (yOf c) (nbX c) k) Q := by
  unfold sendX Prog.lift
  have hland : ∀ fd : S256x512.Idx → F .f32, ((cPiece k).view.loc (nbX c : Thread nD τ) ↦[(cPiece k).view.set]{fullShare}
      ((cPiece k).view.write (Elt F) fd ((xPiece (yOf c) (other (xOf c)) k).view.read (Elt F) (X c)) Finset.univ) : sProp 𝕄) ⊢ pay X (nbX c) (rx k) false := fun fd => by
    refine Entails.of_eq (pointsTo_congr fun i hi => ?_)
    have h := landing_write X (nbX c) k fd i hi
    rw [yOf_nbX, xOf_nbX, nbX_nbX] at h
    exact h
  iintro ⟨#HR, ⟨Hx, ⟨%fd, Hd⟩, Ha, Hb⟩, ⟨%W, HO⟩, HQ⟩
  iapply (runs_send X K c (nbX c) (0, k) (1, k) (src := xPiece (yOf c) (other (xOf c)) k) (dst := cPiece k) (credit_c k) (X c) fd (owedSends c l ly) (add_right_comm _ _ _) W (Entails.refl _) (hland fd)) $$ [Hx Hd HO Ha Hb]
  · isplitr; · iexact HR
    isplitl [Hx]; · iexact Hx
    isplitl [Hd]; · iexact Hd
    isplitl [HO]; · iexact HO
    isplitl [Ha]; · iexact Ha
    iexact Hb
  iintro ⟨Hc, HO⟩
  unfold runs
  rw [wp_ret]
  imodintro
  iapply HQ
  isplitl [Hc]; · iexact Hc
  iexists W; iexact HO

/-- A wait for a chunk: its credit goes, the duty's hand-over comes. -/
theorem runs_await (Q : PUnit → sProp 𝕄) (a : Fin 4 × Fin 8) (O : CellTallies nD τ sig Unit) (hO : (levAts L lv : sProp 𝕄) ⊢ MayWait (c : Thread nD τ) (slotSem (some a)) () O)
    (s : DmaSem sig) (hs : slotSem (some a) = .dma s) (src dst : Memref sig .tc .vmem S32x512 .f32) (hN : dst.view.dmaCredit = N) {hsrc : src.view.WordExact} {hdst : dst.view.WordExact} :
    iprop(records X K ∗ levAts L lv ∗ (credit c (some a) ∗ fresh c (some a)) ∗ owesSome c O
        ∗ ((owesSome c O ∗ waited c (some a) ∗ pay X c (some a) false) -∗ Q ⟨⟩))
      ⊢ runs c (Prog.lift (.waitDma2 s src dst hsrc hdst)) Q := by
  unfold Prog.lift
  have hw : ∀ Q : PUnit → sProp 𝕄, wpE (defs₀ (F := F)) 𝒱₀ (c : Thread nD τ) none Set.univ (.waitDma2 s src dst hsrc hdst) Q
      = waitSpec (c : Thread nD τ) Set.univ (slotSem (some a)) N Q := fun Q => by rw [wpE_waitDma2_eq, hN, hs]
  iintro ⟨#HR, #HL, ⟨Hc, Hat⟩, ⟨%W, HO⟩, HQ⟩
  iapply (runs_wait X K c a hw O W hO) $$ [Hc Hat HO]
  · isplitr; · iexact HR
    isplitr; · iexact HL
    isplitl [Hc]; · iexact Hc
    isplitl [HO]; · iexact HO
    iexact Hat
  iintro ⟨HO, Hat, Hp⟩
  unfold runs
  rw [wp_ret]
  imodintro
  iapply HQ
  isplitl [HO]; · iexists _; iexact HO
  isplitl [Hat]; · iexact Hat
  iexact Hp

/-- The wait for a chunk of the other row half. -/
theorem runs_awaitRows (Q : PUnit → sProp 𝕄) :
    iprop((records X K ∗ levAts L lv) ∗ (credit c (ry k) ∗ fresh c (ry k)) ∗ owesSome c 0
        ∗ (((waited c (ry k) ∗ oHas c (other (yOf c)) k (total X (xOf c))) ∗ owesSome c 0) -∗ Q ⟨⟩))
      ⊢ runs c (awaitRows (yOf c) k) Q := by
  unfold awaitRows
  iintro ⟨⟨#HR, #HL⟩, Hc, HO, HQ⟩
  iapply (runs_await X K c Q (3, k) 0 (by rw [MayWait_zero]; iintro -; iempintro) (semOf cc0_scratch4 k) rfl (oPiece (other (yOf c)) k) (oPiece (other (yOf c)) k) (credit_o _ k))
  isplitr; · iexact HR
  isplitr; · iexact HL
  isplitl [Hc]; · iexact Hc
  isplitl [HO]; · iexact HO
  iintro ⟨HO, Hat, Hp⟩
  ihave Hp := (Entails.of_eq (pay_ry X c k false)) $$ Hp
  iapply HQ
  isplitr [HO]
  · isplitl [Hat]; · iexact Hat
    iexact Hp
  · iexact HO

/-- The waits for the two sends. -/
theorem runs_awaitSends (Q : PUnit → sProp 𝕄) :
    iprop((records X K ∗ levAts L lv) ∗ ((credit c (sx k) ∗ fresh c (sx k)) ∗ credit c (sy k) ∗ fresh c (sy k)) ∗ owesSome c 0
        ∗ ((((waited c (sx k) ∗ xHas X c (yOf c) (other (xOf c)) k) ∗ waited c (sy k) ∗ oHas c (yOf c) k (total X (xOf c))) ∗ owesSome c 0) -∗ Q ⟨⟩))
      ⊢ runs c (awaitSends (xOf c) (yOf c) k) Q := by
  unfold awaitSends
  unfold runs
  rw [wp_bind]
  iintro ⟨⟨#HR, #HL⟩, ⟨Hc, Hd⟩, HO, HQ⟩
  iapply (runs_await X K c _ (0, k) 0 (by rw [MayWait_zero]; iintro -; iempintro) (semOf cc0_scratch1 k) rfl (cPiece k) (xPiece (yOf c) (other (xOf c)) k) (credit_x _ _ k))
  isplitr; · iexact HR
  isplitr; · iexact HL
  isplitl [Hc]; · iexact Hc
  isplitl [HO]; · iexact HO
  iintro ⟨HO, Ha, Hp⟩
  iapply (runs_await X K c Q (2, k) 0 (by rw [MayWait_zero]; iintro -; iempintro) (semOf cc0_scratch3 k) rfl (oPiece (yOf c) k) (oPiece (yOf c) k) (credit_o _ k))
  isplitr; · iexact HR
  isplitr; · iexact HL
  isplitl [Hd]; · iexact Hd
  isplitl [HO]; · iexact HO
  iintro ⟨HO, Hb, Hq⟩
  ihave Hp := (Entails.of_eq (pay_sx X c k false)) $$ Hp
  ihave Hq := (Entails.of_eq (pay_sy X c k false)) $$ Hq
  iapply HQ
  isplitr [HO]
  · isplitl [Ha Hp]
    · isplitl [Ha]; · iexact Ha
      iexact Hp
    · isplitl [Hb]; · iexact Hb
      iexact Hq
  · iexact HO

/-- The wait for the x neighbour's chunk, the sum, its store, and the send along y. -/
theorem runs_addChunk (Q : PUnit → sProp 𝕄) :
    iprop((records X K ∗ levAts L lv) ∗ ((credit c (rx k) ∗ fresh c (rx k)) ∗ xHas X c (yOf c) (xOf c) k ∗ (∃ f, oHas c (yOf c) k f)
          ∗ (∃ f, oHas (nbY c) (yOf c) k f) ∗ tok c (sy k) ∗ tok (nbY c) (ry k))
        ∗ owesSome c (due (nbY c) ry (k :: l))
        ∗ (((waited c (rx k) ∗ xHas X c (yOf c) (xOf c) k ∗ cHas c k (landing X c) ∗ credit c (sy k)) ∗ owesSome c (due (nbY c) ry l)) -∗ Q ⟨⟩))
      ⊢ runs c (addChunk (xOf c) (yOf c) (nbY c) k) Q := by
  have hx : (xM.view.setOn (xRect (yOf c) (xOf c) k).toLoadRect.set) ⊆ (xPiece (yOf c) (xOf c) k).view.set := by
    rw [xPiece_set]
    exact fun i hi => by obtain ⟨j, hj, rfl⟩ := Finset.mem_map.mp hi; exact hj
  have hc : (cM.view.setOn (cRect k).toLoadRect.set) ⊆ (cPiece k).view.set := by
    rw [cPiece_set]
    exact fun i hi => by obtain ⟨j, hj, rfl⟩ := Finset.mem_map.mp hi; exact hj
  have ho : (oM.view.setOn (oRect (yOf c) k).toLoadRect.set) ⊆ (oPiece (yOf c) k).view.set := by
    rw [oPiece_set]
    exact fun i hi => by obtain ⟨j, hj, rfl⟩ := Finset.mem_map.mp hi; exact hj
  have hland : ∀ fd : S512x512.Idx → F .f32, ((oPiece (yOf c) k).view.loc (nbY c : Thread nD τ) ↦[(oPiece (yOf c) k).view.set]{fullShare}
      ((oPiece (yOf c) k).view.write (Elt F) fd ((oPiece (yOf c) k).view.read (Elt F) (total X (xOf c))) Finset.univ) : sProp 𝕄) ⊢ pay X (nbY c) (ry k) false := fun fd => by
    refine Entails.of_eq ?_
    unfold pay
    rw [yOf_nbY, xOf_nbY, other_other]
    exact pointsTo_congr fun i hi => copy_write (yOf c) k fd (total X (xOf c)) i hi
  unfold addChunk runs
  rw [wp_bind]
  iintro ⟨⟨#HR, #HL⟩, ⟨Hc, Hx, ⟨%f, Ho⟩, ⟨%g, Hn⟩, Ha, Hb⟩, HO, HQ⟩
  iapply (runs_await X K c _ (1, k) (due (nbY c) ry (k :: l)) (mayWait_rx c k (k :: l)) (semOf cc0_scratch2 k) rfl (xPiece (yOf c) (other (xOf c)) k) (cPiece k) (credit_c k))
  isplitr; · iexact HR
  isplitr; · iexact HL
  isplitl [Hc]; · iexact Hc
  isplitl [HO]; · iexact HO
  iintro ⟨⟨%W, HO⟩, Hat, Hp⟩
  ihave Hp := (Entails.of_eq (pay_rx X c k false)) $$ Hp
  unfold Prog.lift
  simp only [Prog.bind_op, Prog.bind_ret]
  iapply (wp_load 𝒱₀ (c : Thread nD τ) none Set.univ (m := xM) hx) $$ Hx; iintro Hx
  iapply (wp_load 𝒱₀ (c : Thread nD τ) none Set.univ (m := cM) hc) $$ Hp; iintro Hp
  iapply (wp_load 𝒱₀ (c : Thread nD τ) none Set.univ (m := oM) ho) $$ Ho; iintro Ho
  iapply (wp_store 𝒱₀ (c : Thread nD τ) none Set.univ (m := oM) (r := oRect (yOf c) k) (Mk := Finset.univ) (S := (oPiece (yOf c) k).view.set) (Finset.Subset.refl _)) $$ Ho; iintro Ho
  ihave Ho := (show (_ : sProp 𝕄) ⊢ oHas c (yOf c) k (total X (xOf c)) from Entails.of_eq (pointsTo_congr fun i hi => total_write X c k f i hi)) $$ Ho
  iapply (runs_send X K c (nbY c) (2, k) (3, k) (src := oPiece (yOf c) k) (dst := oPiece (yOf c) k) (credit_o _ k) (total X (xOf c)) g (due (nbY c) ry l) rfl W
    (Entails.of_eq (pay_sy X c k false).symm) (hland g)) $$ [Ho Hn HO Ha Hb]
  · isplitr; · iexact HR
    isplitl [Ho]; · iexact Ho
    isplitl [Hn]; · iexact Hn
    isplitl [HO]; · iexact HO
    isplitl [Ha]; · iexact Ha
    iexact Hb
  iintro ⟨Hd, HO⟩
  unfold runs
  rw [wp_ret]
  imodintro
  iapply HQ
  isplitr [HO]
  · isplitl [Hat]; · iexact Hat
    isplitl [Hx]; · iexact Hx
    isplitl [Hp]; · iexact Hp
    iexact Hd
  · iexists W; iexact HO

end Actions

end Cert.Halves

end
-- ==== Proof.Body.lean ====
/-
# The body of one device

The whole buffers cut into pieces, the handshake, the four loops, and the cells closed at the end.
-/
module

public import proofs.«01_k».proof.Proof.Chunks

@[expose] public section

noncomputable section

namespace Cert.Halves

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1x512x1024.Idx → F .f32) (K : Dev nD × Slot → ℕ)

/-! ## Over all slots, and over the two halves -/

theorem every_slot (Φ : Slot → sProp 𝕄) : bigSep Finset.univ Φ
    = iprop(Φ none ∗ every (fun k => Φ (sx k)) ∗ every (fun k => Φ (rx k)) ∗ every (fun k => Φ (sy k)) ∗ every (fun k => Φ (ry k))) := by
  have h : (Finset.univ : Finset Slot) = insert none (Finset.univ.map Function.Embedding.some) := by decide
  have h4 (Ψ : Fin 4 → sProp 𝕄) : bigSep Finset.univ Ψ = iprop(Ψ 0 ∗ Ψ 1 ∗ Ψ 2 ∗ Ψ 3) := bigSep_univ_eq_bigSepL [0, 1, 2, 3] (by decide) (by decide) Ψ
  rw [h, bigSep_insert (by decide), bigSep_map, bigSep_univ_prod, h4]
  rfl

theorem both_halves (p : Fin 2) (Φ : Fin 2 → sProp 𝕄) : bigSep Finset.univ Φ = iprop(Φ p ∗ Φ (other p)) := by
  match p with
  | 0 => exact bigSep_univ_eq_bigSepL [0, 1] (by decide) (by decide) Φ
  | 1 => exact bigSep_univ_eq_bigSepL [1, 0] (by decide) (by decide) Φ

theorem every_sep (Φ Ψ : Fin 8 → sProp 𝕄) : every (fun k => iprop(Φ k ∗ Ψ k)) = iprop(every Φ ∗ every Ψ) := bigSep_sep' Finset.univ Φ Ψ

/-! ## The buffers in pieces -/

/-- The whole buffers of device `c`. -/
abbrev xAll (c : Dev nD) : sProp 𝕄 := ((c : Thread nD τ).loc cc0_stg0_0) ↦{fullShare} X c
abbrev oAll (c : Dev nD) (f : S512x512.Idx → F .f32) : sProp 𝕄 := ((c : Thread nD τ).loc cc0_stg1_0) ↦{fullShare} f
abbrev cAll (c : Dev nD) (f : S256x512.Idx → F .f32) : sProp 𝕄 := ((c : Thread nD τ).loc cc0_scratch0) ↦{fullShare} f

/-- A buffer cut into pieces that are apart and cover it. -/
theorem cut {ℓ : Loc nD τ sig} {T : Type} [Fintype T] (piece : T → Finset (Idx ℓ)) (f : Buf (Elt F) ℓ)
    (apart : ∀ t t', t ≠ t' → Disjoint (piece t) (piece t')) (cover : ∀ i, ∃ t, i ∈ piece t) :
    (ℓ ↦{fullShare} f : sProp 𝕄) = bigSep Finset.univ fun t => ℓ ↦[piece t]{fullShare} f := by
  refine Eq.trans ?_ (pointsTo_biUnion Finset.univ piece fun t _ t' _ => apart t t')
  refine congrArg (fun I => (ℓ ↦[I]{fullShare} f : sProp 𝕄)) (Finset.eq_univ_of_forall fun i => ?_).symm
  obtain ⟨t, ht⟩ := cover i
  exact Finset.mem_biUnion.mpr ⟨t, Finset.mem_univ t, ht⟩

theorem x_pieces (c : Dev nD) (p q : Fin 2) : xAll X c
    = iprop((every (fun k => xHas X c p q k) ∗ every fun k => xHas X c p (other q) k)
      ∗ every (fun k => xHas X c (other p) q k) ∗ every fun k => xHas X c (other p) (other q) k) := by
  have apart : ∀ t t' : Fin 2 × Fin 2 × Fin 8, t ≠ t' → Disjoint (xPiece t.1 t.2.1 t.2.2).view.set (xPiece t'.1 t'.2.1 t'.2.2).view.set := fun t t' ht => by
    have h := xRect_apart t t' ht
    rwa [← xPiece_set, ← xPiece_set] at h
  have cover : ∀ i : S1x512x1024.Idx, ∃ t : Fin 2 × Fin 2 × Fin 8, i ∈ (xPiece t.1 t.2.1 t.2.2).view.set := fun i => by
    obtain ⟨t, ht⟩ := xRect_cover i
    exact ⟨t, by rw [xPiece_set]; exact ht⟩
  have h : xAll X c = bigSep Finset.univ fun t : Fin 2 × Fin 2 × Fin 8 => xHas X c t.1 t.2.1 t.2.2 :=
    cut (F := F) (ℓ := (c : Thread nD τ).loc cc0_stg0_0) (fun t : Fin 2 × Fin 2 × Fin 8 => (xPiece t.1 t.2.1 t.2.2).view.set) (X c) apart cover
  rw [h, bigSep_univ_prod, both_halves p, bigSep_univ_prod, bigSep_univ_prod, both_halves q, both_halves q]

theorem o_pieces (c : Dev nD) (p : Fin 2) (f : S512x512.Idx → F .f32) : oAll c f
    = iprop(every (fun k => oHas c p k f) ∗ every fun k => oHas c (other p) k f) := by
  have apart : ∀ t t' : Fin 2 × Fin 8, t ≠ t' → Disjoint (oPiece t.1 t.2).view.set (oPiece t'.1 t'.2).view.set := fun t t' ht => by
    have h := oRect_apart t t' ht
    rwa [← oPiece_set, ← oPiece_set] at h
  have cover : ∀ i : S512x512.Idx, ∃ t : Fin 2 × Fin 8, i ∈ (oPiece t.1 t.2).view.set := fun i => by
    obtain ⟨t, ht⟩ := oRect_cover i
    exact ⟨t, by rw [oPiece_set]; exact ht⟩
  have h : oAll c f = bigSep Finset.univ fun t : Fin 2 × Fin 8 => oHas c t.1 t.2 f :=
    cut (F := F) (ℓ := (c : Thread nD τ).loc cc0_stg1_0) (fun t : Fin 2 × Fin 8 => (oPiece t.1 t.2).view.set) (f) apart cover
  rw [h, bigSep_univ_prod, both_halves p]

theorem c_pieces (c : Dev nD) (f : S256x512.Idx → F .f32) : cAll c f = every fun k => cHas c k f := by
  have apart : ∀ t t' : Fin 8, t ≠ t' → Disjoint (cPiece t).view.set (cPiece t').view.set := fun t t' ht => by
    have h := cRect_apart t t' ht
    rwa [← cPiece_set, ← cPiece_set] at h
  have cover : ∀ i : S256x512.Idx, ∃ t : Fin 8, i ∈ (cPiece t).view.set := fun i => by
    obtain ⟨t, ht⟩ := cRect_cover i
    exact ⟨t, by rw [cPiece_set]; exact ht⟩
  exact cut (F := F) (ℓ := (c : Thread nD τ).loc cc0_scratch0) (fun t : Fin 8 => (cPiece t).view.set) (f) apart cover

/-- Pieces at some contents, from pieces at the contents of one buffer. -/
theorem every_exists {A : Type} (Φ : Fin 8 → A → sProp 𝕄) (f : A) : (every (fun k => Φ k f) : sProp 𝕄) ⊢ every fun k => iprop(∃ f, Φ k f) :=
  bigSep_mono fun k _ => show (Φ k f : sProp 𝕄) ⊢ iprop(∃ f, Φ k f) by iintro H; iexists f; iexact H

/-! ## The cells closed -/

theorem close_cell (c : Dev nD) (x : Slot) : iprop(records X K ∗ waited c x) ⊢ (|={Set.univ}=> semVal (cell c x) 0 : sProp 𝕄) := by
  iintro ⟨#HR, Hat⟩
  ihave #Hi := (records_inv X K c x) $$ HR
  iapply (Rounds.cell_close ER (sched X) (Set.mem_univ (K (c, x))) (fun h => h) (R := 1) (duties_after X (cell c x)))
  isplitr; · iexact Hi
  iexact Hat

theorem close_all (c : Dev nD) : iprop(records X K ∗ bigSep Finset.univ fun x : Slot => waited c x)
    ⊢ (|={Set.univ}=> bigSep Finset.univ fun x : Slot => semVal (cell c x) 0 : sProp 𝕄) :=
  ((sep_mono_left (BI.bigSep_of_persistent Finset.univ (records X K))).trans
    (Entails.of_eq (bigSep_sep' Finset.univ (fun _ : Slot => records X K) fun x : Slot => waited c x).symm)).trans
    ((bigSep_mono fun x _ => close_cell X K c x).trans (bigSep_fupd _ _))

/-! ## The body -/

/-- What device `c` starts from: its positions, and the tokens of the duties it pays. -/
def linear (c : Dev nD) : sProp 𝕄 :=
  iprop((bigSep Finset.univ fun x : Slot => fresh c x)
    ∗ dutyTok ER (cell (nbX c) none) 0 false ∗ dutyTok ER (cell (nbY c) none) 0 true
    ∗ every (fun k => tok c (sx k)) ∗ every (fun k => tok (nbX c) (rx k)) ∗ every (fun k => tok c (sy k)) ∗ every (fun k => tok (nbY c) (ry k)))

/-- The credits device `c` starts from: its barrier's two units and the chunks it receives. -/
def credits (c : Dev nD) : sProp 𝕄 :=
  iprop(cred (tallyAt (cell c none) () 2) ∗ every (fun k => credit c (rx k)) ∗ every (fun k => credit c (ry k)))

/-- What device `c` ends with: its cells closed at zero, nothing owed, its block of x, the result, the landed rows. -/
def ended (c : Dev nD) : sProp 𝕄 :=
  iprop((bigSep Finset.univ fun x : Slot => semVal (cell c x) 0) ∗ owesSome c 0 ∗ xAll X c ∗ oAll c (total X (xOf c)) ∗ cAll c (landing X c))

/-- The landing buffer is what the signal to the x neighbour hands over. -/
theorem hand_landing (c : Dev nD) (f : S256x512.Idx → F .f32) : cAll c f ⊢ (sched X).payload (cell (nbX c) none) 0 false := by
  rw [payload_cell X (nbX c) none]
  unfold pay
  rw [nbX_nbX, c_pieces]
  exact every_exists (fun k f => cHas c k f) f
/-- The other row half of the result is what the signal to the y neighbour hands over. -/
theorem hand_rows (c : Dev nD) (f : S512x512.Idx → F .f32) : (every (fun k => oHas c (other (yOf c)) k f) : sProp 𝕄) ⊢ (sched X).payload (cell (nbY c) none) 0 true := by
  rw [payload_cell X (nbY c) none]
  unfold pay
  rw [nbY_nbY, yOf_nbY]
  exact every_exists (fun k f => oHas c (other (yOf c)) k f) f

theorem duty_barrier (d : Dev nD) (b : Bool) : b ∈ (sched X).duties (cell d none) 0 := by rw [duties_cell X d none]; exact Finset.mem_univ b

/-- A signal to a neighbour's barrier: the duty's hand-over and its token go, and one unit of what is owed. -/
theorem runs_signal (c d : Dev nD) (b : Bool) (O : CellTallies nD τ sig Unit) (W : Waits sig Unit) (H : sProp 𝕄)
    (hH : H ⊢ (sched X).payload (cell d none) 0 b) (k : PUnit → P F) (Q : PUnit → sProp 𝕄) :
    iprop(records X K ∗ owes (c : Thread nD τ) (O + tallyAt (cell d none) () 1) W ∗ dutyTok ER (cell d none) 0 b ∗ H
        ∗ (owes (c : Thread nD τ) O W -∗ runs c (k ⟨⟩) Q))
      ⊢ runs c (semSignalWord d barrier0 1#32 >>= k) Q := by
  simp only [semSignalWord, Prog.lift, Prog.bind_op, Prog.bind_ret]
  iintro ⟨#HR, HO, Ht, Hc, HQ⟩
  ihave #Hi := (records_inv X K d none) $$ HR
  ihave #Hr := (records_reached X K d none) $$ HR
  iapply (Rounds.wp_signal 𝒱₀ ER (sched X) (c : Thread nD τ) none (dst := (d : Thread nD τ)) (κ := K (d, none))
      (d := b) (duty_barrier X d b) ((amount_cell X d none b).trans (by decide)) () O rfl)
    $$ [HO Ht Hc]
  · isplitr; · iexact Hi
    isplitl [HO]; · iexact HO
    isplitl [Ht]; · iexact Ht
    isplitl [Hc]
    · iapply (show H ⊢ (sched X).payload ((d : Thread nD τ), .reg barrier0) 0 b from hH); iexact Hc
    · iexact Hr
  iexact HQ

/-- The wait for both neighbours: their hand-overs come. -/
theorem runs_barrier (c : Dev nD) (W : Waits sig Unit) (k : PUnit → P F) (Q : PUnit → sProp 𝕄) :
    iprop(records X K ∗ levAts L lv ∗ cred (tallyAt (cell c none) () 2) ∗ owes (c : Thread nD τ) (owedSends c chunks chunks) W ∗ fresh c none
        ∗ ((owesSome c (owedSends c chunks chunks) ∗ waited c none ∗ pay X c none false ∗ pay X c none true) -∗ runs c (k ⟨⟩) Q))
      ⊢ runs c (semWaitWord barrier0 2#32 >>= k) Q := by
  simp only [semWaitWord, Prog.lift, Prog.bind_op, Prog.bind_ret]
  iintro ⟨#HR, #HL, Hc, HO, Hat, HQ⟩
  ihave #Hi := (records_inv X K c none) $$ HR
  iapply (Rounds.wp_wait_rest_token 𝒱₀ ER (sched X) (c : Thread nD τ) none (κ := K (c, none))
      (wpE_semWait_eq 𝒱₀ (c : Thread nD τ) none Set.univ) (Set.mem_univ _) () (O := owedSends c chunks chunks) (W := W) (R := 0) (m := 0) (T := ∅)
      ((by decide : 0 + BitVec.toNat 2#32 = 2).trans (expect_barrier X c).symm)) $$ [Hc HO Hat]
  · isplitr; · iexact Hi
    isplitl [Hc]; · iexact Hc
    isplitl [HO]; · iexact HO
    isplitr; · iapply (mayWait_barrier (F := F) c); iexact HL
    iexact Hat
  iintro ⟨HO, Hat, -, Hp⟩
  ihave Hp := (show bigSep ((sched X).duties ((c : Thread nD τ), .reg barrier0) 0 \ ∅) (fun d => (sched X).payload ((c : Thread nD τ), .reg barrier0) 0 d)
    ⊢ iprop(pay X c none false ∗ pay X c none true) from Entails.of_eq (rest_barrier X c)) $$ Hp
  icases Hp with ⟨H1, H2⟩
  iapply HQ
  isplitl [HO]; · iexists _; iexact HO
  isplitl [Hat]; · iexact Hat
  isplitl [H1]; · iexact H1
  iexact H2

theorem pay_landing (c : Dev nD) : pay X c none false = every fun k => iprop(∃ f, cHas (nbX c) k f) := rfl
theorem pay_rows (c : Dev nD) : pay X c none true = every fun k => iprop(∃ f, oHas (nbY c) (yOf c) k f) := rfl
theorem owedSends_nil (c : Dev nD) (l : List (Fin 8)) : owedSends c [] l = due (nbY c) ry l := zero_add _

/-- The body of device `c`, from its start to its end. -/
theorem runs_uniform (c : Dev nD) (W : Waits sig Unit) (Q : PUnit → sProp 𝕄) :
    iprop(records X K ∗ levAts L lv ∗ linear c ∗ credits c ∗ owes (c : Thread nD τ) (owed0 c) W ∗ xAll X c ∗ (∃ f, oAll c f) ∗ (∃ f, cAll c f)
        ∗ (ended X c -∗ Q ⟨⟩))
      ⊢ runs c (uniform c) Q := by
  unfold uniform linear credits
  rw [every_slot, x_pieces X c (yOf c) (xOf c)]
  iintro ⟨#HR, #HL, ⟨⟨Fb, Fsx, Frx, Fsy, Fry⟩, Tbx, Tby, Tsx, Trx, Tsy, Try⟩, ⟨Cb, Crx, Cry⟩, HO, ⟨⟨Xk, Xs⟩, Xr, Xr'⟩, ⟨%fo, Ho⟩, ⟨%fc, Hc⟩, HQ⟩
  ihave Ho := (Entails.of_eq (o_pieces c (yOf c) fo)) $$ Ho
  icases Ho with ⟨Oown, Oother⟩
  -- the handshake
  iapply (runs_signal X K c (nbX c) false (owed1 c) W _ (hand_landing X c fc))
  isplitr; · iexact HR
  isplitl [HO]; · iexact HO
  isplitl [Tbx]; · iexact Tbx
  isplitl [Hc]; · iexact Hc
  iintro HO
  iapply (runs_signal X K c (nbY c) true (owedSends c chunks chunks) W _ (hand_rows X c fo))
  isplitr; · iexact HR
  isplitl [HO]; · iexact HO
  isplitl [Tby]; · iexact Tby
  isplitl [Oother]; · iexact Oother
  iintro HO
  iapply (runs_barrier X K c W)
  isplitr; · iexact HR
  isplitr; · iexact HL
  isplitl [Cb]; · iexact Cb
  isplitl [HO]; · iexact HO
  isplitl [Fb]; · iexact Fb
  iintro ⟨HO, Wb, Px, Py⟩
  unfold exchange runs
  rw [wp_bind]
  -- the sends along x
  iapply (runs_chunks c (sendX (xOf c) (yOf c) (nbX c)) (records X K) _ _ (fun l => owesSome c (owedSends c l chunks)) fun k l Q => runs_sendX X K c k l chunks Q)
  isplitr; · iexact HR
  isplitl [Xs Px Tsx Trx]
  · rw [every_sep, every_sep, every_sep]
    isplitl [Xs]; · iexact Xs
    isplitl [Px]; · iapply (Entails.of_eq (pay_landing X c)); iexact Px
    isplitl [Tsx]; · iexact Tsx
    iexact Trx
  isplitl [HO]; · iexact HO
  iintro ⟨Csx, HO⟩
  rw [wp_bind]
  -- the sums, their stores and the sends along y
  iapply (runs_chunks c (addChunk (xOf c) (yOf c) (nbY c)) iprop(records X K ∗ levAts L lv) _ _ (fun l => owesSome c (due (nbY c) ry l)) fun k l Q => runs_addChunk X K c k l Q)
  isplitr
  · isplitr; · iexact HR
    iexact HL
  isplitl [Crx Frx Xk Oown Py Tsy Try]
  · rw [every_sep, every_sep, every_sep, every_sep, every_sep, every_sep]
    isplitl [Crx Frx]
    · isplitl [Crx]; · iexact Crx
      iexact Frx
    isplitl [Xk]; · iexact Xk
    isplitl [Oown]; · iapply (every_exists (fun k f => oHas c (yOf c) k f) fo); iexact Oown
    isplitl [Py]; · iapply (Entails.of_eq (pay_rows X c)); iexact Py
    isplitl [Tsy]; · iexact Tsy
    iexact Try
  isplitl [HO]
  · rw [owedSends_nil]; iexact HO
  rw [every_sep, every_sep, every_sep]
  iintro ⟨⟨Wrx, Xk, Hc, Csy⟩, HO⟩
  rw [wp_bind]
  -- the waits for the other row half
  iapply (runs_chunks c (awaitRows (yOf c)) iprop(records X K ∗ levAts L lv) _ _ (fun l => owesSome c 0) fun k l Q => runs_awaitRows X K c k Q)
  isplitr
  · isplitr; · iexact HR
    iexact HL
  isplitl [Cry Fry]
  · rw [every_sep]
    isplitl [Cry]; · iexact Cry
    iexact Fry
  isplitl [HO]; · iexact HO
  rw [every_sep]
  iintro ⟨⟨Wry, Oother⟩, HO⟩
  -- the waits for the sends
  rw [show each chunks (awaitSends (F := F) (xOf c) (yOf c)) = each chunks (awaitSends (xOf c) (yOf c)) >>= fun u => .ret u from (Prog.bind_pure _).symm, wp_bind]
  iapply (runs_chunks c (awaitSends (xOf c) (yOf c)) iprop(records X K ∗ levAts L lv) _ _ (fun l => owesSome c 0) fun k l Q => runs_awaitSends X K c k Q)
  isplitr
  · isplitr; · iexact HR
    iexact HL
  isplitl [Csx Fsx Csy Fsy]
  · rw [every_sep, every_sep, every_sep]
    isplitl [Csx Fsx]
    · isplitl [Csx]; · iexact Csx
      iexact Fsx
    isplitl [Csy]; · iexact Csy
    iexact Fsy
  isplitl [HO]; · iexact HO
  rw [every_sep, every_sep, every_sep]
  iintro ⟨⟨⟨Wsx, Xs⟩, Wsy, Oown⟩, HO⟩
  rw [wp_ret]
  -- the cells close
  imod (close_all X K c) $$ [Wb Wsx Wrx Wsy Wry] with Hz
  · isplitr; · iexact HR
    rw [every_slot]
    isplitl [Wb]; · iexact Wb
    isplitl [Wsx]; · iexact Wsx
    isplitl [Wrx]; · iexact Wrx
    isplitl [Wsy]; · iexact Wsy
    iexact Wry
  imodintro
  iapply HQ
  unfold ended
  rw [x_pieces X c (yOf c) (xOf c), o_pieces c (yOf c), c_pieces]
  isplitl [Hz]; · iexact Hz
  isplitl [HO]; · iexact HO
  isplitl [Xk Xs Xr Xr']
  · isplitl [Xk Xs]
    · isplitl [Xk]; · iexact Xk
      iexact Xs
    isplitl [Xr]; · iexact Xr
    iexact Xr'
  isplitl [Oown Oother]
  · isplitl [Oown]; · iexact Oown
    iexact Oother
  iexact Hc

end Cert.Halves

end
-- ==== Proof.Setup.lean ====
/-
# What the launch deals out

The cells of all devices are allocated at once; every device keeps its positions and the tokens of the duties it pays
at its neighbours; the credits it starts with are what its neighbours owe it.
-/
module

public import proofs.«01_k».proof.Proof.Body
public import proofs.«01_k».proof.Proof.Gen.KernelIdeal.Launch

@[expose] public section

noncomputable section

namespace Cert.Halves

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → S1x512x1024.Idx → F .f32)

/-! ## Cells and tokens -/

theorem cell_eq_iff {c d : Dev nD} {x y : Slot} : cell c x = cell d y ↔ c = d ∧ x = y :=
  ⟨fun h => ⟨congrArg (fun g : GSem nD τ sig => g.1.1) h, slotSem_injective (congrArg Prod.snd h)⟩, fun h => by rw [h.1, h.2]⟩

def allCells : Finset (GSem nD τ sig) :=
  Finset.univ.map ⟨fun p : Dev nD × Slot => cell p.1 p.2, fun p q h => Prod.ext (cell_eq_iff.mp h).1 (cell_eq_iff.mp h).2⟩

/-- The tokens of a device's own cells: `some x` the duty `false` of the cell `x`, `none` the barrier's duty `true`. -/
def tokenAt (p : Dev nD × Option Slot) : GSem nD τ sig × ℕ × Bool := (cell p.1 (p.2.getD none), 0, p.2.isNone)

theorem tokenAt_injective : Function.Injective tokenAt := fun p q h => by
  obtain ⟨hc, hx⟩ := cell_eq_iff.mp (congrArg Prod.fst h)
  have hb : p.2.isNone = q.2.isNone := congrArg (fun t : GSem nD τ sig × ℕ × Bool => t.2.2) h
  obtain ⟨c, x⟩ := p
  obtain ⟨d, y⟩ := q
  refine Prod.ext hc ?_
  cases x <;> cases y
  · rfl
  · cases hb
  · cases hb
  · exact congrArg some hx

def allTokens : Finset (GSem nD τ sig × ℕ × Bool) := Finset.univ.map ⟨tokenAt, tokenAt_injective⟩

def u₀ : UU := (initOf (Pipeline.cells cfgs cellOf_inj) (Pipeline.launchToks cfgs cellOf_inj), initOf allCells allTokens)

theorem over_option {T : Type} [Fintype T] [DecidableEq T] (Φ : Option T → sProp 𝕄) :
    bigSep Finset.univ Φ = iprop(Φ none ∗ bigSep Finset.univ fun t => Φ (some t)) := by
  have h : (Finset.univ : Finset (Option T)) = insert none (Finset.univ.map Function.Embedding.some) := by
    ext x; cases x <;> simp
  rw [h, bigSep_insert (by simp), bigSep_map]
  rfl

/-- The tokens of device `c`'s own cells. -/
def ownTokens (c : Dev nD) : sProp 𝕄 := iprop(dutyTok ER (cell c none) 0 true ∗ bigSep Finset.univ fun x : Slot => tok c x)

/-- What the launch gives device `c` before the cells are allocated. -/
def dealt (c : Dev nD) : sProp 𝕄 :=
  iprop((bigSep Finset.univ fun x : Slot => roundState ER (sched X) (cell c x) 0)
    ∗ (bigSep Finset.univ fun x : Slot => fresh c x) ∗ (bigSep Finset.univ fun x : Slot => reached ER (cell c x) 0) ∗ ownTokens c)

theorem over_cells (Φ : GSem nD τ sig → sProp 𝕄) :
    bigSep allCells Φ = bigSep Finset.univ fun c : Dev nD => bigSep Finset.univ fun x : Slot => Φ (cell c x) := by
  unfold allCells; rw [bigSep_map, bigSep_univ_prod]; rfl

theorem over_tokens : (bigSep allTokens fun t => (dutyTok ER t.1 t.2.1 t.2.2 : sProp 𝕄)) = bigSep Finset.univ fun c : Dev nD => ownTokens c := by
  unfold allTokens; rw [bigSep_map, bigSep_univ_prod]
  exact bigSep_congr fun c _ => (over_option fun o : Option Slot => (dutyTok ER (tokenAt (c, o)).1 (tokenAt (c, o)).2.1 (tokenAt (c, o)).2.2 : sProp 𝕄)).trans rfl

theorem deal : BI.own (ER (initOf allCells allTokens)) ⊢ (|==> bigSep Finset.univ (dealt X) : sProp 𝕄) := by
  iintro H
  imod (Rounds.fund ER (sched X) allCells allTokens) $$ H with ⟨Hs, Hr, Ha, Ht⟩
  imodintro
  ihave Hs := (Entails.of_eq (over_cells fun g => (roundState ER (sched X) g 0 : sProp 𝕄))) $$ Hs
  ihave Hr := (Entails.of_eq (over_cells fun g => (reached ER g 0 : sProp 𝕄))) $$ Hr
  ihave Ha := (Entails.of_eq (over_cells fun g => (atPos ER g 0 ∅ 0 : sProp 𝕄))) $$ Ha
  ihave Ht := (Entails.of_eq (over_tokens (F := F))) $$ Ht
  unfold dealt
  simp only [bigSep_sep']
  isplitl [Hs]; · iexact Hs
  isplitl [Ha]; · iexact Ha
  isplitl [Hr]; · iexact Hr
  iexact Ht

/-! ## The allocation -/

/-- The kernel's own semaphores: those of the transfers. -/
abbrev ownSem (p : Fin 4 × Fin 8) : SemLoc sig := slotSem (some p)

theorem ownSem_facts : Pipeline.OwnSemFacts cfg0.spec ownSem := by decide +kernel

theorem unscoped_barrier (c : Dev nD) : (unscopedSems0 c : sProp 𝕄) = semVal (cell c none) 0 := by
  unfold unscopedSems0; rw [bigSep_eq_bigSepL_of_eq [slotSem none] (by decide) (by decide)]; rfl

abbrev ownZero (c : Dev nD) : sProp 𝕄 := Pipeline.ownSems0 (Ix := Unit) (Name := ℕ) (U := UU) (Lvl := ℕ) (Val := Elt F) (τ := τ) ownSem c

theorem all_zero (c : Dev nD) : (bigSep Finset.univ fun x : Slot => semVal (cell c x) 0 : sProp 𝕄) = iprop(unscopedSems0 c ∗ ownZero c) := by
  rw [unscoped_barrier]
  exact over_option _

theorem allocate (c : Dev nD) : iprop(ownZero c ∗ unscopedSems0 c ∗ dealt X c)
    ⊢ (|={Set.univ}=> iprop((bigSep Finset.univ fun x : Slot => iprop(∃ κ : ℕ, cellInv ER (sched X) κ (cell c x)))
      ∗ (bigSep Finset.univ fun x : Slot => fresh c x) ∗ (bigSep Finset.univ fun x : Slot => reached ER (cell c x) 0) ∗ ownTokens c) : sProp 𝕄) := by
  unfold dealt
  iintro ⟨Ho, Hu, Hs, Hrest⟩
  ihave Hz := (Entails.of_eq (all_zero (F := F) c).symm) $$ [Ho Hu]
  · isplitl [Hu] <;> iassumption
  imod (show iprop((bigSep Finset.univ fun x : Slot => semVal (cell c x) 0) ∗ bigSep Finset.univ fun x : Slot => roundState ER (sched X) (cell c x) 0)
      ⊢ (|={Set.univ}=> bigSep Finset.univ fun x : Slot => iprop(∃ κ : ℕ, cellInv ER (sched X) κ (cell c x)) : sProp 𝕄) from by
        rw [← bigSep_sep']
        exact (bigSep_mono fun x _ => (Rounds.body_intro ER (sched X) (cell c x)).trans inv_alloc).trans (bigSep_fupd _ _)) $$ [Hz Hs] with Hi
  · isplitl [Hz] <;> iassumption
  imodintro
  isplitl [Hi]; · iexact Hi
  iexact Hrest

/-! ## The tokens go to those who pay -/

def flipX : Dev nD ≃ Dev nD := ⟨nbX, nbX, nbX_nbX, nbX_nbX⟩
def flipY : Dev nD ≃ Dev nD := ⟨nbY, nbY, nbY_nbY, nbY_nbY⟩

/-- The tokens device `c` pays with. -/
def payTokens (c : Dev nD) : sProp 𝕄 :=
  iprop(dutyTok ER (cell (nbX c) none) 0 false ∗ dutyTok ER (cell (nbY c) none) 0 true
    ∗ every (fun k => tok c (sx k)) ∗ every (fun k => tok (nbX c) (rx k)) ∗ every (fun k => tok c (sy k)) ∗ every (fun k => tok (nbY c) (ry k)))

theorem linear_eq (c : Dev nD) : (linear c : sProp 𝕄) = iprop((bigSep Finset.univ fun x : Slot => fresh c x) ∗ payTokens c) := rfl

theorem tokens_move : (bigSep Finset.univ fun c : Dev nD => (ownTokens c : sProp 𝕄)) ⊢ bigSep Finset.univ fun c : Dev nD => payTokens c := by
  have h (c : Dev nD) : (ownTokens c : sProp 𝕄) = iprop(dutyTok ER (cell c none) 0 true ∗ tok c none
      ∗ every (fun k => tok c (sx k)) ∗ every (fun k => tok c (rx k)) ∗ every (fun k => tok c (sy k)) ∗ every (fun k => tok c (ry k))) := by
    unfold ownTokens; rw [every_slot]
  rw [bigSep_congr fun c _ => h c]
  unfold payTokens
  simp only [bigSep_sep']
  rw [bigSep_univ_equiv flipX (fun c : Dev nD => (tok c none : sProp 𝕄)),
    bigSep_univ_equiv flipY (fun c : Dev nD => (dutyTok ER (cell c none) 0 true : sProp 𝕄)),
    bigSep_univ_equiv flipX (fun c : Dev nD => (every (fun k => tok c (rx k)) : sProp 𝕄)),
    bigSep_univ_equiv flipY (fun c : Dev nD => (every (fun k => tok c (ry k)) : sProp 𝕄))]
  iintro ⟨H1, H2, H3, H4, H5, H6⟩
  isplitl [H2]; · iexact H2
  isplitl [H1]; · iexact H1
  isplitl [H3]; · iexact H3
  isplitl [H4]; · iexact H4
  isplitl [H5]; · iexact H5
  iexact H6

/-- What a device has when every cell is allocated. -/
def equipped (c : Dev nD) : sProp 𝕄 := iprop((∃ K, records X K) ∗ linear c)

theorem equip : (bigSep Finset.univ fun c : Dev nD => iprop((bigSep Finset.univ fun x : Slot => iprop(∃ κ : ℕ, cellInv ER (sched X) κ (cell c x)))
      ∗ (bigSep Finset.univ fun x : Slot => fresh c x) ∗ (bigSep Finset.univ fun x : Slot => reached ER (cell c x) 0) ∗ ownTokens c) : sProp 𝕄)
    ⊢ bigSep Finset.univ (equipped X) := by
  unfold equipped
  simp only [bigSep_sep', linear_eq]
  rw [← bigSep_univ_prod (fun p : Dev nD × Slot => iprop(∃ κ : ℕ, cellInv ER (sched X) κ (cell p.1 p.2))),
    ← bigSep_univ_prod (fun p : Dev nD × Slot => (reached ER (cell p.1 p.2) 0 : sProp 𝕄))]
  iintro ⟨Hi, Hf, #Hr, Ht⟩
  ihave Hi := (BI.bigSep_exists_pi Finset.univ (fun (p : Dev nD × Slot) (κ : ℕ) => (cellInv ER (sched X) κ (cell p.1 p.2) : sProp 𝕄))) $$ Hi
  icases Hi with ⟨%K, #Hi⟩
  isplitr
  · iapply ((BI.bigSep_of_persistent Finset.univ (records X K)).trans
      (bigSep_mono fun (c : Dev nD) _ => show records X K ⊢ (iprop(∃ K, records X K) : sProp 𝕄) from by iintro H; iexists K; iexact H))
    unfold records
    isplitr; · iexact Hi
    iexact Hr
  isplitl [Hf]; · iexact Hf
  iapply (tokens_move (F := F))
  iexact Ht

theorem set_up : (bigSep Finset.univ fun c : Dev nD => iprop(ownZero c ∗ unscopedSems0 c ∗ dealt X c) : sProp 𝕄) ⊢ |={Set.univ}=> bigSep Finset.univ (equipped X) :=
  ((bigSep_mono fun c _ => allocate X c).trans (bigSep_fupd _ _)).trans (BI.fupd_mono (equip X))

/-! ## The credits -/

theorem due_cell (d c : Dev nD) (x : Fin 8 → Slot) (y : Slot) (l : List (Fin 8)) :
    due d x l (cell c y) () = if c = d then l.countP (fun k => y = x k) * N else 0 := by
  induction l with
  | nil => unfold due; rw [List.countP_nil, Nat.zero_mul]; split <;> rfl
  | cons k l ih =>
    unfold due
    rw [Pi.add_apply, Finsupp.add_apply, ih, tallyAt_apply, List.countP_cons]
    by_cases hc : c = d
    · subst hc
      by_cases hy : y = x k
      · rw [if_pos rfl, if_pos rfl, if_pos ⟨congrArg (cell c) hy, rfl⟩, if_pos (decide_eq_true hy), Nat.add_mul, Nat.one_mul]
      · rw [if_pos rfl, if_pos rfl, if_neg (fun h => hy (cell_eq_iff.mp h.1).2), if_neg (fun h => hy (of_decide_eq_true h)), Nat.add_zero, Nat.add_zero]
    · rw [if_neg hc, if_neg hc, if_neg (fun h => hc (cell_eq_iff.mp h.1).1)]

theorem one_cell (d c : Dev nD) (y : Slot) : (tallyAt (cell d none) () 1 : CellTallies nD τ sig Unit) (cell c y) () = if c = d then (if y = none then 1 else 0) else 0 := by
  rw [tallyAt_apply]
  by_cases hc : c = d
  · by_cases hy : y = none
    · rw [if_pos hc, if_pos hy, if_pos ⟨cell_eq_iff.mpr ⟨hc, hy⟩, rfl⟩]
    · rw [if_pos hc, if_neg hy, if_neg (fun h => hy (cell_eq_iff.mp h.1).2)]
  · rw [if_neg hc, if_neg (fun h => hc (cell_eq_iff.mp h.1).1)]

/-- Summed over the devices, only the one whose neighbour `c` is counts. -/
theorem from_one (e : Dev nD ≃ Dev nD) (he : ∀ c, e (e c) = c) (c : Dev nD) (a : ℕ) : (∑ d : Dev nD, if c = e d then a else 0) = a := by
  rw [Finset.sum_eq_single (e c) (fun d _ hd => if_neg fun h => hd (by rw [h, he])) (fun h => absurd (Finset.mem_univ _) h), he, if_pos rfl]

/-- All that is owed to the cell `y` of device `c`. -/
theorem owed_total (c : Dev nD) (y : Slot) : (∑ d : Dev nD, owed0 d (cell c y) ())
    = chunks.countP (fun k => y = rx k) * N + chunks.countP (fun k => y = ry k) * N + (if y = none then 1 else 0) + (if y = none then 1 else 0) := by
  have h (d : Dev nD) : owed0 d (cell c y) () = (if c = flipX d then chunks.countP (fun k => y = rx k) * N else 0) + (if c = flipY d then chunks.countP (fun k => y = ry k) * N else 0)
      + (if c = flipY d then (if y = none then 1 else 0) else 0) + (if c = flipX d then (if y = none then 1 else 0) else 0) := by
    unfold owed0 owed1 owedSends
    rw [Pi.add_apply, Finsupp.add_apply, Pi.add_apply, Finsupp.add_apply, Pi.add_apply, Finsupp.add_apply, due_cell, due_cell, one_cell, one_cell]
    rfl
  rw [Finset.sum_congr rfl fun d _ => h d, Finset.sum_add_distrib, Finset.sum_add_distrib, Finset.sum_add_distrib,
    from_one flipX nbX_nbX, from_one flipY nbY_nbY, from_one flipY nbY_nbY, from_one flipX nbX_nbX]

/-- The credit a device has for a slot. -/
def creditOf : Slot → ℕ
  | none => 2
  | some (1, _) => N
  | some (3, _) => N
  | some _ => 0

theorem owed_credit (c : Dev nD) (y : Slot) : (∑ d : Dev nD, owed0 d (cell c y) ()) = creditOf y := by
  have h : ∀ y : Slot, chunks.countP (fun k => y = rx k) = (match y with | some (1, _) => 1 | _ => 0)
      ∧ chunks.countP (fun k => y = ry k) = (match y with | some (3, _) => 1 | _ => 0) := by decide
  rw [owed_total, (h y).1, (h y).2]
  unfold creditOf
  match y with
  | none => rw [if_pos rfl]; show 0 * N + 0 * N + 1 + 1 = 2; rw [Nat.zero_mul]
  | some (0, _) => rw [if_neg (by simp)]; show 0 * N + 0 * N + 0 + 0 = 0; rw [Nat.zero_mul]
  | some (1, _) => rw [if_neg (by simp)]; show 1 * N + 0 * N + 0 + 0 = N; rw [Nat.zero_mul, Nat.one_mul]; rfl
  | some (2, _) => rw [if_neg (by simp)]; show 0 * N + 0 * N + 0 + 0 = 0; rw [Nat.zero_mul]
  | some (3, _) => rw [if_neg (by simp)]; show 0 * N + 1 * N + 0 + 0 = N; rw [Nat.zero_mul, Nat.one_mul, Nat.zero_add]; rfl

theorem launch_tally (c : Dev nD) (y : Slot) :
    tallyOn (cell c y) (launchCredit (Pipeline.owing owed0) 0 (cell c y)) = (tallyAt (cell c y) () (creditOf y) : CellTallies nD τ sig Unit) := by
  unfold tallyAt
  refine congrArg _ (Finsupp.ext fun u => ?_)
  cases u
  rw [Pipeline.launchCredit_owing, Finsupp.single_eq_same, owed_credit]

theorem launch_credits (c : Dev nD) : (Pipeline.launchCred owed0 c : sProp 𝕄) ⊢ credits c := by
  unfold Pipeline.launchCred
  refine BIBase.Entails.trans (BI.bigSep_subset (Finset.subset_univ (Finset.univ.map ⟨slotSem, slotSem_injective⟩))) ?_
  rw [bigSep_map]
  refine (Entails.of_eq (bigSep_congr fun y _ => congrArg (fun t => (cred t : sProp 𝕄)) (launch_tally c y))).trans ?_
  rw [every_slot]
  unfold credits
  iintro ⟨H1, -, H2, -, H3⟩
  isplitl [H1]; · iexact H1
  isplitl [H2]; · iexact H2
  iexact H3

end Cert.Halves

end
-- ==== Proof.Run.lean ====
/-
# The run of the four devices

The pipeline's data of the one launch, its body from `runs_uniform`, and the run: every execution ends, each device's
result holds the sum of the two blocks along the summed axis, x is unchanged and every counter is back at zero.
-/
module

public import proofs.«01_k».proof.Proof.Setup
public import Idealize.ShloMosaic.Lib.Pipeline.Value
public import Idealize.ShloMosaic.Lib.Pipeline.CollectiveSegs

@[expose] public section

noncomputable section

namespace Cert.Halves

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The start of the run: any memory, every counter at zero. -/
def start : MemSt nD τ sig (Elt F) := ⟨m, fun _ => 0, ρ⟩

/-- Device `c`'s block of x. -/
def blockOf (c : Dev nD) : S1x512x1024.Idx → F .f32 := m ((c : Thread nD τ).loc main_arg0)

/-! ## The windows are whole arrays -/

theorem x_emb (t : Fin cfg0.N) (i : S1x512x1024.Idx) : (win0_0.blk t).view.emb i = i := by
  funext a
  exact Fin.ext (win0_0.rect_emb_val_of_index_zero t a rfl i)
theorem out_emb (t : Fin cfg0.N) (i : S512x512.Idx) : (win0_1.blk t).view.emb i = i := by
  funext a
  exact Fin.ext (win0_1.rect_emb_val_of_index_zero t a rfl i)

theorem x_read (t : Fin cfg0.N) (f : S1x512x1024.Idx → F .f32) : (win0_0.blk t).view.read (Elt F) f = f :=
  funext fun i => congrArg f (x_emb t i)
theorem out_read (t : Fin cfg0.N) (f : S512x512.Idx → F .f32) : (win0_1.blk t).view.read (Elt F) f = f :=
  funext fun i => congrArg f (out_emb t i)

/-! ## The pipeline's data -/

def before (c : Dev nD) : sProp 𝕄 := iprop((equipped (blockOf m) c ∗ credits c ∗ levAts L lv) ∗ ∃ f, cAll c f)
def afterwards (c : Dev nD) : sProp 𝕄 := iprop((bigSep Finset.univ fun x : Slot => semVal (cell c x) 0) ∗ cAll c (landing (blockOf m) c))

def dats (_ : Fin 1) (c : Dev nD) : Dat τ (Elt F) Unit ℕ UU ℕ cfg0 c where
  A w := m ((cfg0.win w).arr.view.loc (c : Thread nD τ))
  after w _ := match w with
    | ⟨0, _⟩ => blockOf m c
    | ⟨1, _⟩ => total (blockOf m) (xOf c)
  Φ t := match t with
    | ⟨0, _⟩ => before m c
    | ⟨_ + 1, _⟩ => afterwards m c
  q _ := fullShare
  owed t := match t with
    | ⟨0, _⟩ => owed0 c
    | ⟨_ + 1, _⟩ => 0

theorem whole_owned (c : Dev nD) (b : Ref sig .tc) (f : b.ty.Contents (Elt F)) :
    (owns (Ix := Unit) (Name := ℕ) (U := UU) (Lvl := ℕ) (c : Thread nD τ) (Memref.whole b) fullShare f : sProp 𝕄)
      = iprop(∃ g : Buf (Elt F) ((c : Thread nD τ).loc b), ⌜g = f⌝ ∗ (((c : Thread nD τ).loc b) ↦{fullShare} g)) := by
  unfold owns; simp only [Memref.view_whole, View.read_whole, View.set_whole]

/-- A staging buffer of device `c` at contents `f`. -/
abbrev staged (c : Dev nD) (b : Ref sig .tc) (f : b.ty.Contents (Elt F)) : sProp 𝕄 :=
  iprop(∃ g : Buf (Elt F) ((c : Thread nD τ).loc b), ⌜g = f⌝ ∗ (((c : Thread nD τ).loc b) ↦{fullShare} g))

theorem two_windows (Φ : Fin cfg0.W → sProp 𝕄) : bigSep Finset.univ Φ = iprop(Φ (0 : Fin 2) ∗ Φ (1 : Fin 2)) := bigSep_W0 Φ

theorem fetch_x : (cfg0.win (0 : Fin 2)).fetch t0_0 = true := rfl

theorem fetched (c : Dev nD) (d) : (dats m 0 c).before (0 : Fin 2) t0_0 d = blockOf m c := by
  unfold Dat.before
  rw [if_pos fetch_x]
  exact x_read (F := F) t0_0 (blockOf m c)

/-- What the body is given and what it leaves. -/
def given (c : Dev nD) : sProp 𝕄 :=
  iprop(before m c ∗ (dats m 0 c).owesAt () (t0_0 : Fin cfg0.N).castSucc
    ∗ (∃ d, staged c cc0_stg0_0 ((dats m 0 c).before (0 : Fin 2) t0_0 d)) ∗ (∃ d, staged c cc0_stg1_0 ((dats m 0 c).before (1 : Fin 2) t0_0 d)))
def left (c : Dev nD) : sProp 𝕄 :=
  iprop(afterwards m c ∗ (dats m 0 c).owesAt () (t0_0 : Fin cfg0.N).succ
    ∗ staged c cc0_stg0_0 (blockOf m c) ∗ staged c cc0_stg1_0 (total (blockOf m) (xOf c)))

theorem leave (c : Dev nD) : ended (blockOf m) c ⊢ left m c := by
  unfold ended left afterwards Dat.owesAt Pipeline.owesWithin
  rw [show (dats m 0 c).owed (t0_0 : Fin cfg0.N).succ = 0 from rfl]
  iintro ⟨Hz, ⟨%W, HO⟩, Hx, Ho, Hc⟩
  isplitl [Hz Hc]
  · isplitl [Hz] <;> iassumption
  isplitl [HO]
  · iexists W
    isplitr; · ipureintro; exact fun _ _ => Or.inl trivial
    iexact HO
  isplitl [Hx]
  · iexists _
    isplitr; · (ipureintro; rfl)
    iexact Hx
  iexists _
  isplitr; · (ipureintro; rfl)
  iexact Ho

theorem device_id (c : Dev nD) (Q : PUnit → sProp 𝕄) : runs c (uniform c) Q ⊢ runs c (Prog.lift .deviceId >>= fun c => uniform (F := F) c) Q := by
  simp only [Prog.lift, Prog.bind_op, Prog.bind_ret, wp_deviceId]
  exact Entails.of_eq rfl

theorem body_runs (c : Dev nD) : given m c ⊢ runs c (theBody (F := F)) (fun _ => left m c) := by
  rw [body_uniform]
  unfold given before equipped Dat.owesAt Pipeline.owesWithin
  rw [show (dats m 0 c).owed (t0_0 : Fin cfg0.N).castSucc = owed0 c from rfl]
  iintro ⟨⟨⟨⟨⟨%K, #HR⟩, Hlin⟩, Hcr, #HL⟩, Hc⟩, ⟨%W, %hW, HO⟩, ⟨%d0, %g0, %h0, Hx⟩, ⟨%d1, %g1, %h1, Ho⟩⟩
  have hx : g0 = blockOf m c := h0.trans (fetched m c d0)
  subst hx
  iapply (device_id c fun _ => left m c)
  iapply (runs_uniform (blockOf m) K c W fun _ => left m c)
  isplitr; · iexact HR
  isplitr; · iexact HL
  isplitl [Hlin]; · iexact Hlin
  isplitl [Hcr]; · iexact Hcr
  isplitl [HO]; · iexact HO
  isplitl [Hx]; · iexact Hx
  isplitl [Ho]
  · iexists g1; iexact Ho
  isplitl [Hc]; · iexact Hc
  iintro He
  iapply (leave m c)
  iexact He

set_option maxRecDepth 4000 in
/-- The body obligation of the pipeline. -/
theorem body_obligation (c : Dev nD) : BodyObligation (dats (F := F) m 0 c) (defs₀ (F := F)) 𝒱₀ () Set.univ := fun t => by
  rw [fin_N0 t, two_windows, two_windows]
  simp only [whole_owned]
  exact body_runs m c

/-! ## The side conditions of the launch -/

theorem share_full (c : Dev nD) (w : Fin cfg0.W) : (dats m 0 c).share w = fullShare := by unfold Dat.share; split <;> rfl

theorem enter (c : Dev nD) :
    iprop(Pipeline.unscopedRestP Pipeline.Prefetch.none cfg0.spec c (fun b => m ((c : Thread nD τ).loc b)) ∗ levAts L lv
        ∗ Pipeline.launchCred owed0 c ∗ prngReg c (ρ c) ∗ equipped (blockOf m) c)
      ⊢ (|={Set.univ}=> iprop((equipped (blockOf m) c ∗ credits c ∗ levAts L lv) ∗ emp) : sProp 𝕄) := by
  iintro ⟨-, HL, Hc, -, He⟩
  ihave Hc := (launch_credits (F := F) c) $$ Hc
  imodintro
  isplitl
  · isplitl [He]; · iexact He
    isplitl [Hc] <;> iassumption
  · iempintro

theorem open_body (c : Dev nD) :
    iprop((equipped (blockOf m) c ∗ credits c ∗ levAts L lv) ∗ Pipeline.prefHeld Pipeline.Prefetch.none c (fun _ => fullShare.right) (fun k => k.elim0) ∗ Pipeline.scopedRest cfg0.spec c)
      ⊢ (dats m 0 c).Φ 0 := by
  rw [show (dats m 0 c).Φ 0 = before m c from rfl, scopedRest0_eq]
  unfold before
  iintro ⟨Hs, -, Hr⟩
  isplitl [Hs] <;> iassumption

theorem close_body (c : Dev nD) :
    (dats m 0 c).Φ (Fin.last cfg0.N) ⊢ iprop(unscopedSems0 c ∗ ownZero c ∗ Pipeline.scopedRest cfg0.spec c) := by
  rw [show (dats m 0 c).Φ (Fin.last cfg0.N) = afterwards m c from rfl, scopedRest0_eq]
  unfold afterwards
  rw [all_zero]
  iintro ⟨⟨Hu, Ho⟩, Hc⟩
  isplitl [Hu]; · iexact Hu
  isplitl [Ho]; · iexact Ho
  iexists _
  iexact Hc

theorem waits (c : Dev nD) : (levAts L lv : sProp 𝕄) ⊢ Pipeline.cellsWaits cfgs (dats m) () 0 c :=
  Pipeline.cellsWaits_intro cfgs (dats m) () 0 c fun w s t =>
    mayWait_staging c _ (by fin_cases w <;> fin_cases s <;> decide) _ (by
      rcases t with ⟨_ | _, ht⟩
      · exact Or.inl rfl
      · exact Or.inr rfl)

/-! ## The run -/

/-- What the memory holds at the end. -/
def Done (s : MemSt nD τ sig (Elt F)) : Prop := ∀ c : Dev nD,
  s.mem ((c : Thread nD τ).loc main_v1) = total (blockOf m) (xOf c) ∧ s.mem ((c : Thread nD τ).loc main_arg0) = m ((c : Thread nD τ).loc main_arg0)

theorem final_x (c : Dev nD) : (dats m 0 c).arrAt (0 : Fin 2) cfg0.N = m ((c : Thread nD τ).loc main_arg0) :=
  (dats (F := F) m 0 c).arrAt_in (0 : Fin 2) rfl _

theorem final_out (c : Dev nD) : (dats m 0 c).arrAt (1 : Fin 2) cfg0.N = total (blockOf m) (xOf c) :=
  (dats (F := F) m 0 c).arrAt_eq_of_cover (1 : Fin 2) (total (blockOf m) (xOf c))
    (fun t _ => (show (dats m 0 c).flushed (1 : Fin 2) t = total (blockOf m) (xOf c) from rfl).trans (out_read t _).symm)
    fun i => ⟨t0_0, rfl, by
      have h := (win0_1.blk t0_0).view.emb_mem_set i
      rwa [out_emb] at h⟩

set_option maxRecDepth 8000 in
/-- Every execution ends, in the stated memory and with every counter at zero. -/
theorem run_main : θ_run defs (onTc (τ := τ) (main (F := F))) (start m ρ) (fun r => Done m r.2 ∧ r.2.sem = fun _ => 0) :=
  Pipeline.θ_run_region_owing_glob_pf (fun p => (cfgs p).toPCfg) (fun p => (cfgs p).toPCfg_adm) (dats m) () cellOf_inj (0 : Fin 1)
    winFacts0.to₀ ownSem_facts (Pipeline.PreFacts.none _) EP defs₀ 𝒱₀ m ρ main
    (hmain := fun _ => rfl)
    (hbody := fun c => (body_obligation m c).loose) (hne := block_pos0) (harr := arr_whole0) (hstage := stage_whole0) (hshare := share_full m)
    (hdistinct := winFacts0.arr_inj)
    (O₀ := owed0) (howed₀ := fun _ => rfl) (howedN := fun _ => rfl)
    (L := L) (lv := lv) (hL := L_of_ne) (hwaits := waits m)
    (G := dealt (blockOf m)) (G' := equipped (blockOf m)) (u₀ := u₀)
    (hu₀ := by
      unfold u₀
      iintro Hu
      ihave H := (ownU_pair _ _) $$ Hu
      icases H with ⟨HP, HX⟩
      imod (deal (blockOf m)) $$ HX with HG
      imodintro
      isplitl [HP] <;> iassumption)
    (hglob := set_up (blockOf m))
    (hA := fun _ _ => rfl) (hpf := fun _ k => k.elim0)
    (X := fun c => iprop(equipped (blockOf m) c ∗ credits c ∗ levAts L lv)) (Y := fun c => unscopedSems0 c) (Z := fun _ => iprop(emp))
    (hX := enter m ρ) (hin := open_body m) (hout := close_body m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c => ⟨((h c).1 (1 : Fin 2)).trans (final_out m c), ((h c).1 (0 : Fin 2)).trans (final_x m c)⟩, sem_eq_zero hs fun c => (h c).2.2⟩)

end Cert.Halves

end
-- ==== Proof.Sum.lean ====
/-
# The equation

The reference adds the two slices of the whole array. A device at x place `p` adds slice `p` and the other slice at its
columns; addition commutes, so either order gives the reference's element.
-/
module

public import proofs.«01_k».proof.Proof.Run
public import proofs.«01_k».proof.Proof.Gen.ReferenceIdeal.Read

@[expose] public section

noncomputable section

namespace Cert.Halves

open Cert.KernelIdeal
open Idealize.ShloMosaic
open Idealize.ShloMosaic.TcCoe
open Cert.ReferenceIdeal.Read (val_main_v0 val_main_v0_apply val_main_cst_apply idx_main_v0)

/-- The whole array and the whole result. -/
abbrev Whole : Type := Cert.ReferenceIdeal.S2x512x1024.Idx → Ideal .f32
abbrev WholeSum : Type := Cert.ReferenceIdeal.S512x1024.Idx → Ideal .f32

/-- Device `c`'s block of the whole array, and of the whole result. -/
def sliceOf (x : Whole) (c : Dev nD) : S1x512x1024.Idx → Ideal .f32 :=
  Layout.blockN ⟨3, ![1, 512, 1024]⟩ ⟨3, ![2, 512, 1024]⟩ (Layout.meshBlock [2, 2] ![[0], [], []] c) x
def columnsOf (v : WholeSum) (c : Dev nD) : S512x512.Idx → Ideal .f32 :=
  Layout.blockN ⟨2, ![512, 512]⟩ ⟨2, ![512, 1024]⟩ (Layout.meshBlock [2, 2] ![[], [0]] c) v

/-- An element of the columns of x place `p`, as an element of the whole result. -/
def spot (p : Fin 2) (i : S512x512.Idx) : Cert.ReferenceIdeal.S512x1024.Idx := fun a => match a with
  | ⟨0, _⟩ => ⟨(i 0).val, (i 0).isLt⟩
  | ⟨1, _⟩ => ⟨512 * p.val + (i 1).val, by
      have h : (i 1).val < 512 := (i 1).isLt
      show _ < 1024
      omega⟩

theorem mesh_x (c : Dev nD) : Layout.meshLin [2, 2] c.val [0] = (xOf c).val := by revert c; decide
theorem xOf_devAt (p h : Fin 2) : xOf (devAt p h) = p := by revert p h; decide

/-- On an axis that isn't cut the block's place is the array's. -/
theorem first_block (n k : Nat) : 0 * n + k = k := by rw [Nat.zero_mul, Nat.zero_add]

theorem columns_at (v : WholeSum) (c : Dev nD) (i : S512x512.Idx) : columnsOf v c i = v (spot (xOf c) i) := by
  refine congrArg v (funext fun a => Fin.ext ?_)
  match a with
  | ⟨0, _⟩ => exact first_block 512 (i 0).val
  | ⟨1, _⟩ =>
    show Layout.meshLin [2, 2] c.val [0] * 512 + (i 1).val = 512 * (xOf c).val + (i 1).val
    rw [mesh_x, Nat.mul_comm]

theorem slice_at (x : Whole) (p q h : Fin 2) (i : S512x512.Idx) : sliceOf x (devAt q h) (wide p i) = x (idx_main_v0 (spot p i) q) := by
  refine congrArg x (funext fun a => Fin.ext ?_)
  match a with
  | ⟨0, _⟩ =>
    show Layout.meshLin [2, 2] (devAt q h).val [0] * 1 + 0 = q.val
    rw [mesh_x, xOf_devAt, Nat.mul_one]; rfl
  | ⟨1, _⟩ => exact first_block 512 (i 0).val
  | ⟨2, _⟩ => exact first_block 1024 (512 * p.val + (i 1).val)

/-- The sum over two is the sum of either one and the other. -/
theorem sum_two (f : Fin 2 → EReal) (p : Fin 2) : ∑ k : Fin 2, f k = f p + f (other p) := by
  rw [Fin.sum_univ_two]
  match p with
  | 0 => rfl
  | 1 => exact add_comm _ _

/-- What device `c` computes is its columns of the reference's result. -/
theorem total_columns (x : Whole) (c : Dev nD) : total (sliceOf x) (xOf c) = columnsOf (val_main_v0 (F := Ideal) x) c := by
  funext i
  rw [columns_at, val_main_v0_apply, val_main_cst_apply]
  unfold total
  rw [slice_at, slice_at, sum_two _ (xOf c)]
  show _ = Ideal.ofBits .f32 0x00000000#32 + _
  rw [Ideal.ofBits_zero_f32, zero_add]
  rfl

end Cert.Halves

end
-- ==== Proof.lean ====
/-
# The claims

The kernel and its idealization have one text, run once for any float values in `Cert.Halves.run_main`. Both frames are
read off it, and the algebraic claim adds that each device's result is its columns of the reference's sum.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Sum
public import Idealize.ShloMosaic.Adequacy
public import Idealize.ShloMosaic.Init

@[expose] public section

noncomputable section

namespace Cert.Proof

open Idealize.ShloMosaic Idealize.ShloMosaic.TcCoe Idealize.SL.Sem

open Cert.KernelIdeal in
/-- The kernel over any float values runs, keeps x and leaves every counter at zero. -/
theorem frame_any {F : FTy → Type} [FloatOps F] (m : (ℓ : Loc nD τ sig) → Buf (Elt F) ℓ) (ρ : Dev nD → PrngReg) :
    θ_run defs (onTc (τ := τ) (main (F := F))) (Cert.Halves.start m ρ)
      (fun r => (∀ c : Dev nD, r.2.mem ((c.tc : Thread nD τ).loc main_arg0) = m ((c.tc : Thread nD τ).loc main_arg0)) ∧ r.2.sem = fun _ => 0) :=
  (θ_run defs _ _).mono (fun _ h => ⟨fun c => (h.1 c).2, h.2⟩) (Cert.Halves.run_main m ρ)

/-- The kernel and its idealization have the same table of bodies: one label, with the same text. -/
theorem bodies_same : Cert.Kernel.defs₀ (F := Bits) = Cert.KernelIdeal.defs₀ (F := Bits) :=
  congrArg Defs.onTc (funext fun l => funext fun _ => match l with | 0 => rfl)
theorem defs_same : Cert.Kernel.defs (F := Bits) = Cert.KernelIdeal.defs (F := Bits) :=
  congrArg (Pipeline.defs (Cert.KernelIdeal.pcfgs (F := Bits))) bodies_same

/-- At machine words, for the kernel as written. -/
theorem frame_kernel : Cert.quiescent_Kernel := fun m ρ _ => by
  have h := frame_any (F := Bits) m ρ
  rw [← defs_same] at h
  exact h

/-- At real numbers, for its idealization. -/
theorem frame_ideal : Cert.quiescent_KernelIdeal := fun m ρ _ => frame_any (F := Ideal) m ρ

/-- The reference runs and keeps x; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Each device's result is its columns of the reference's sum. -/
theorem algebraic : Cert.algebraic_KernelIdeal_ReferenceIdeal := fun m ρ m' ρ' _ hx => by
  have hX : Cert.Halves.blockOf m = Cert.Halves.sliceOf (m' (((0 : Dev Cert.ReferenceIdeal.nD).tc : Thread Cert.ReferenceIdeal.nD Cert.ReferenceIdeal.τ).loc Cert.ReferenceIdeal.main_arg0)) :=
    funext hx
  refine ⟨Cert.ReferenceIdeal.Read.val_main_v0 (F := Ideal) (m' (((0 : Dev Cert.ReferenceIdeal.nD).tc : Thread Cert.ReferenceIdeal.nD Cert.ReferenceIdeal.τ).loc Cert.ReferenceIdeal.main_arg0)), ?_, ?_⟩
  · refine (θ_run Cert.KernelIdeal.defs _ _).mono (fun r h c => ⟨(h.1 c).1.trans ?_, (h.1 c).2⟩) (Cert.Halves.run_main (F := Ideal) m ρ)
    rw [hX]
    exact Cert.Halves.total_columns _ c
  · exact (θ_run Cert.ReferenceIdeal.defs _ _).mono (fun r h => ⟨(h 0).1.trans (Cert.ReferenceIdeal.Read.val_main_v0_eq _), (h 0).2⟩)
      (Cert.ReferenceIdeal.Value.run (F := Ideal) m' ρ')

theorem claim : Cert.Claim :=
  ⟨Cert.Kernel.Gen.facts, Cert.KernelIdeal.Gen.facts, Cert.ReferenceIdeal.Gen.facts,
    frame_kernel, frame_ideal, frame_reference, trivial, algebraic⟩

end Cert.Proof

end
